-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_a_log_is_log_n [hPre_a_log_is_log_n : Cert.Pre_a_log_is_log_n.Facts] (m : (ℓ : Loc Cert.KernelIdeal.nD Cert.KernelIdeal.τ Cert.KernelIdeal.sig) → Buf (Elt Ideal) ℓ) : Prop :=
  ∀ c : Dev Cert.KernelIdeal.nD,
    (Cert.Pre_a_log_is_log_n.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_a_log_is_log_n [hPre_a_log_is_log_n : Cert.Pre_a_log_is_log_n.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_a_log_is_log_n.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_a_log_is_log_n [hKernelIdeal : Cert.KernelIdeal.Facts] [hPre_a_log_is_log_n : Cert.Pre_a_log_is_log_n.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_a_log_is_log_n m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_a_log_is_log_n [hReferenceIdeal : Cert.ReferenceIdeal.Facts] [hPre_a_log_is_log_n : Cert.Pre_a_log_is_log_n.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_a_log_is_log_n m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_a_log_is_log_n [hKernelIdeal : Cert.KernelIdeal.Facts] [hReferenceIdeal : Cert.ReferenceIdeal.Facts] [hPre_a_log_is_log_n : Cert.Pre_a_log_is_log_n.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_a_log_is_log_n m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_a_log_is_log_n : Cert.Pre_a_log_is_log_n.Facts),
    quiescent_Kernel (hKernel := hKernel)
    ∧ quiescent_KernelIdeal (hKernelIdeal := hKernelIdeal)
    ∧ quiescent_KernelIdeal_pre_a_log_is_log_n (hKernelIdeal := hKernelIdeal) (hPre_a_log_is_log_n := hPre_a_log_is_log_n)
    ∧ quiescent_ReferenceIdeal (hReferenceIdeal := hReferenceIdeal)
    ∧ quiescent_ReferenceIdeal_pre_a_log_is_log_n (hReferenceIdeal := hReferenceIdeal) (hPre_a_log_is_log_n := hPre_a_log_is_log_n)
    ∧ preserves_Kernel_KernelIdeal
    ∧ algebraic_KernelIdeal_ReferenceIdeal_pre_a_log_is_log_n (hKernelIdeal := hKernelIdeal) (hReferenceIdeal := hReferenceIdeal) (hPre_a_log_is_log_n := hPre_a_log_is_log_n)
-- ==== Pre_a_log_is_log_n.lean ====
abbrev S4x128x1x2048 : Shape := ⟨4, ![4, 128, 1, 2048]⟩
abbrev S1024x128 : Shape := ⟨2, ![1024, 128]⟩
abbrev S512x1x4 : Shape := ⟨3, ![512, 1, 4]⟩
abbrev S512 : Shape := ⟨1, ![512]⟩
abbrev S136x512 : Shape := ⟨2, ![136, 512]⟩
abbrev S512x8 : Shape := ⟨2, ![512, 8]⟩
abbrev S512x64 : Shape := ⟨2, ![512, 64]⟩
abbrev S128x512 : Shape := ⟨2, ![128, 512]⟩
abbrev S_ : Shape := ⟨0, ![]⟩

class Facts : Prop where
  bcast_S_S512x64 : S_.BroadcastsInDim S512x64 (![] : Fin 0 → Fin S512x64.rank)

variable [Facts]

def fn {F : FTy → Type} [FloatOps F] (main_arg0 : FVec F S4x128x1x2048 .f32) (main_arg1 : FVec F S1024x128 .f32) (main_arg2 : FVec F S512x1x4 .f32) (main_arg3 : FVec F S512 .f32) (main_arg4 : FVec F S136x512 .f32) (main_arg5 : FVec F S512x8 .f32) (main_arg6 : FVec F S512 .f32) (main_arg7 : FVec F S512x64 .f32) (main_arg8 : FVec F S512 .f32) (main_arg9 : FVec F S128x512 .f32) : IVec S512x64 1 :=
  let main_v0 : IVec S512x64 32 := iotaInDim S512x64 32 1
  let main_c : IVec S_ 32 := constantI S_ 32 1#32
  let main_v1 : IVec S512x64 32 := broadcastInDim S512x64 ![] bcast_S_S512x64 main_c
  let main_v2 : IVec S512x64 32 := addi main_v0 main_v1
  let main_v3 : FVec F S512x64 .f32 := sitofp .f32 main_v2
  let main_v4 : FVec F S512x64 .f32 := Host.log main_v3
  let main_v5 : IVec S512x64 1 := cmpf .oeq main_arg7 main_v4
  main_v5
-- ==== Kernel.lean ====
abbrev S4x128x1x2048 : Shape := ⟨4, ![4, 128, 1, 2048]⟩
abbrev S1024x128 : Shape := ⟨2, ![1024, 128]⟩
abbrev S512x1x4 : Shape := ⟨3, ![512, 1, 4]⟩
abbrev S512 : Shape := ⟨1, ![512]⟩
abbrev S136x512 : Shape := ⟨2, ![136, 512]⟩
abbrev S512x8 : Shape := ⟨2, ![512, 8]⟩
abbrev S512x64 : Shape := ⟨2, ![512, 64]⟩
abbrev S128x512 : Shape := ⟨2, ![128, 512]⟩
abbrev S4x128x2048 : Shape := ⟨3, ![4, 128, 2048]⟩
abbrev S4x2048x128 : Shape := ⟨3, ![4, 2048, 128]⟩
abbrev S512x128 : Shape := ⟨2, ![512, 128]⟩
abbrev S512x4 : Shape := ⟨2, ![512, 4]⟩
abbrev S4x512 : Shape := ⟨2, ![4, 512]⟩
abbrev S64x512 : Shape := ⟨2, ![64, 512]⟩
abbrev S8x512 : Shape := ⟨2, ![8, 512]⟩
abbrev S1x512 : Shape := ⟨2, ![1, 512]⟩
abbrev S1x2048x128 : Shape := ⟨3, ![1, 2048, 128]⟩
abbrev S2048x512 : Shape := ⟨2, ![2048, 512]⟩
abbrev S2048x128 : Shape := ⟨2, ![2048, 128]⟩
abbrev S2047x512 : Shape := ⟨2, ![2047, 512]⟩
abbrev S2x512 : Shape := ⟨2, ![2, 512]⟩
abbrev S2046x512 : Shape := ⟨2, ![2046, 512]⟩
abbrev S3x512 : Shape := ⟨2, ![3, 512]⟩
abbrev S2045x512 : Shape := ⟨2, ![2045, 512]⟩
abbrev S2048x64 : Shape := ⟨2, ![2048, 64]⟩
abbrev S2048x8 : Shape := ⟨2, ![2048, 8]⟩
abbrev S8x128 : Shape := ⟨2, ![8, 128]⟩
abbrev S128x8 : Shape := ⟨2, ![128, 8]⟩
abbrev S128x1 : Shape := ⟨2, ![128, 1]⟩
abbrev S64x1 : Shape := ⟨2, ![64, 1]⟩

abbrev nBuf : Space → Nat
  | .hbm => 33
  | .vmem => 20
  | .smem => 0
  | _ => 0

abbrev bufTy : (tb : Table) → Fin (tcTables nBuf tb) → BufTy
  | .hbm, ⟨0, _⟩ => ⟨S4x128x1x2048, .f32⟩
  | .hbm, ⟨1, _⟩ => ⟨S1024x128, .f32⟩
  | .hbm, ⟨2, _⟩ => ⟨S512x1x4, .f32⟩
  | .hbm, ⟨3, _⟩ => ⟨S512, .f32⟩
  | .hbm, ⟨4, _⟩ => ⟨S136x512, .f32⟩
  | .hbm, ⟨5, _⟩ => ⟨S512x8, .f32⟩
  | .hbm, ⟨6, _⟩ => ⟨S512, .f32⟩
  | .hbm, ⟨7, _⟩ => ⟨S512x64, .f32⟩
  | .hbm, ⟨8, _⟩ => ⟨S512, .f32⟩
  | .hbm, ⟨9, _⟩ => ⟨S128x512, .f32⟩
  | .hbm, ⟨10, _⟩ => ⟨S4x128x2048, .f32⟩
  | .hbm, ⟨11, _⟩ => ⟨S4x2048x128, .f32⟩
  | .hbm, ⟨12, _⟩ => ⟨S512x128, .f32⟩
  | .hbm, ⟨13, _⟩ => ⟨S128x512, .f32⟩
  | .hbm, ⟨14, _⟩ => ⟨S512x128, .f32⟩
  | .hbm, ⟨15, _⟩ => ⟨S128x512, .f32⟩
  | .hbm, ⟨16, _⟩ => ⟨S512x4, .f32⟩
  | .hbm, ⟨17, _⟩ => ⟨S4x512, .f32⟩
  | .hbm, ⟨18, _⟩ => ⟨S64x512, .f32⟩
  | .hbm, ⟨19, _⟩ => ⟨S512x64, .f32⟩
  | .hbm, ⟨20, _⟩ => ⟨S64x512, .f32⟩
  | .hbm, ⟨21, _⟩ => ⟨S512x64, .f32⟩
  | .hbm, ⟨22, _⟩ => ⟨S8x512, .f32⟩
  | .hbm, ⟨23, _⟩ => ⟨S512x8, .f32⟩
  | .hbm, ⟨24, _⟩ => ⟨S8x512, .f32⟩
  | .hbm, ⟨25, _⟩ => ⟨S64x512, .f32⟩
  | .hbm, ⟨26, _⟩ => ⟨S512x128, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S4x2048x128, .f32⟩
  | .hbm, ⟨31, _⟩ => ⟨S4x128x2048, .f32⟩
  | .hbm, ⟨32, _⟩ => ⟨S4x128x1x2048, .f32⟩
  | .local _ .vmem, ⟨0, _⟩ => ⟨S1x2048x128, .f32⟩
  | .local _ .vmem, ⟨1, _⟩ => ⟨S1x2048x128, .f32⟩
  | .local _ .vmem, ⟨2, _⟩ => ⟨S128x512, .f32⟩
  | .local _ .vmem, ⟨3, _⟩ => ⟨S128x512, .f32⟩
  | .local _ .vmem, ⟨4, _⟩ => ⟨S4x512, .f32⟩
  | .local _ .vmem, ⟨5, _⟩ => ⟨S1x512, .f32⟩
  | .local _ .vmem, ⟨6, _⟩ => ⟨S512x64, .f32⟩
  | .local _ .vmem, ⟨7, _⟩ => ⟨S512x64, .f32⟩
  | .local _ .vmem, ⟨8, _⟩ => ⟨S512x8, .f32⟩
  | .local _ .vmem, ⟨9, _⟩ => ⟨S8x512, .f32⟩
  | .local _ .vmem, ⟨10, _⟩ => ⟨S1x512, .f32⟩
  | .local _ .vmem, ⟨11, _⟩ => ⟨S64x512, .f32⟩
  | .local _ .vmem, ⟨12, _⟩ => ⟨S1x512, .f32⟩
  | .local _ .vmem, ⟨13, _⟩ => ⟨S512x128, .f32⟩
  | .local _ .vmem, ⟨14, _⟩ => ⟨S1x2048x128, .f32⟩
  | .local _ .vmem, ⟨15, _⟩ => ⟨S1x2048x128, .f32⟩
  | .local _ .vmem, ⟨16, _⟩ => ⟨S2048x512, .f32⟩
  | .local _ .vmem, ⟨17, _⟩ => ⟨S2048x512, .f32⟩
  | .local _ .vmem, ⟨18, _⟩ => ⟨S2048x128, .f32⟩
  | .local _ .vmem, ⟨19, _⟩ => ⟨S2048x512, .f32⟩
  | _, _ => ⟨S4x128x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c256_i32 : BitVec 32 := 256#32
  let v82 : BitVec 32 := Scalar.addi c0_i32 c256_i32
  let c1_i32 : BitVec 32 := 1#32
  ⟨c0_i32, v82, c1_i32⟩
def k0_mult1 (k0_t1 : Fin k0_t1_loop.trips) : BitVec 32 :=
  let c0_i32 : BitVec 32 := 0#32
  let c1_i32 : BitVec 32 := 1#32
  let arg19 : BitVec 32 := Scf.iv c0_i32 c1_i32 k0_t1
  let c8_i32 : BitVec 32 := 8#32
  let v100 : BitVec 32 := Scalar.muli arg19 c8_i32
  v100
def k0_off1 (k0_t1 : Fin k0_t1_loop.trips) : Fin 2 → Nat :=
  let c0_i32 : BitVec 32 := 0#32
  let c1_i32 : BitVec 32 := 1#32
  let arg19 : BitVec 32 := Scf.iv c0_i32 c1_i32 k0_t1
  let c8_i32 : BitVec 32 := 8#32
  let v100 : BitVec 32 := Scalar.muli arg19 c8_i32
  let v101 : BitVec 32 := v100
  let v102 : Index := Scalar.indexCast v101
  let c0_48 : Index := 0#32
  ![v102.toNat, 0]
def k0_off2 (k0_t1 : Fin k0_t1_loop.trips) : Fin 2 → Nat :=
  let c0_i32 : BitVec 32 := 0#32
  let c1_i32 : BitVec 32 := 1#32
  let arg19 : BitVec 32 := Scf.iv c0_i32 c1_i32 k0_t1
  let c8_i32 : BitVec 32 := 8#32
  let v100 : BitVec 32 := Scalar.muli arg19 c8_i32
  let v101 : BitVec 32 := v100
  let v106 : Index := Scalar.indexCast v101
  let c0_50 : Index := 0#32
  ![v106.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x128x1x2048 : Shape := ⟨4, ![4, 128, 1, 2048]⟩
abbrev S1024x128 : Shape := ⟨2, ![1024, 128]⟩
abbrev S512x1x4 : Shape := ⟨3, ![512, 1, 4]⟩
abbrev S512 : Shape := ⟨1, ![512]⟩
abbrev S136x512 : Shape := ⟨2, ![136, 512]⟩
abbrev S512x8 : Shape := ⟨2, ![512, 8]⟩
abbrev S512x64 : Shape := ⟨2, ![512, 64]⟩
abbrev S128x512 : Shape := ⟨2, ![128, 512]⟩
abbrev S4x128x2048 : Shape := ⟨3, ![4, 128, 2048]⟩
abbrev S4x2048x128 : Shape := ⟨3, ![4, 2048, 128]⟩
abbrev S128x1024 : Shape := ⟨2, ![128, 1024]⟩
abbrev S4x2048x1024 : Shape := ⟨3, ![4, 2048, 1024]⟩
abbrev S4x2048x512 : Shape := ⟨3, ![4, 2048, 512]⟩
abbrev S_ : Shape := ⟨0, ![]⟩
abbrev S4x2051x512 : Shape := ⟨3, ![4, 2051, 512]⟩
abbrev S512x1x1 : Shape := ⟨3, ![512, 1, 1]⟩
abbrev S1x1x512 : Shape := ⟨3, ![1, 1, 512]⟩
abbrev S512x136 : Shape := ⟨2, ![512, 136]⟩
abbrev S4x2048x136 : Shape := ⟨3, ![4, 2048, 136]⟩
abbrev S4x2048x8 : Shape := ⟨3, ![4, 2048, 8]⟩
abbrev S4x2048x64 : Shape := ⟨3, ![4, 2048, 64]⟩
abbrev S8x512 : Shape := ⟨2, ![8, 512]⟩
abbrev S4x512x64 : Shape := ⟨3, ![4, 512, 64]⟩
abbrev S2048x4x512 : Shape := ⟨3, ![2048, 4, 512]⟩
abbrev S2048x4x64 : Shape := ⟨3, ![2048, 4, 64]⟩
abbrev S1x4x512 : Shape := ⟨3, ![1, 4, 512]⟩
abbrev S4x512 : Shape := ⟨2, ![4, 512]⟩
abbrev S1x4x64 : Shape := ⟨3, ![1, 4, 64]⟩
abbrev S4x64 : Shape := ⟨2, ![4, 64]⟩
abbrev S4x512x1 : Shape := ⟨3, ![4, 512, 1]⟩
abbrev S1x512x64 : Shape := ⟨3, ![1, 512, 64]⟩
abbrev S4x1x64 : Shape := ⟨3, ![4, 1, 64]⟩
abbrev S512x128 : Shape := ⟨2, ![512, 128]⟩

abbrev nBuf : Space → Nat
  | .hbm => 163
  | .vmem => 0
  | .smem => 0
  | _ => 0

abbrev hbmTy0_0 (i : Nat) : BufTy := match i % 128 with
  | 0 => ⟨S4x128x1x2048, .f32⟩
  | 1 => ⟨S1024x128, .f32⟩
  | 2 => ⟨S512x1x4, .f32⟩
  | 3 => ⟨S512, .f32⟩
  | 4 => ⟨S136x512, .f32⟩
  | 5 => ⟨S512x8, .f32⟩
  | 6 => ⟨S512, .f32⟩
  | 7 => ⟨S512x64, .f32⟩
  | 8 => ⟨S512, .f32⟩
  | 9 => ⟨S128x512, .f32⟩
  | 10 => ⟨S4x128x2048, .f32⟩
  | 11 => ⟨S4x2048x128, .f32⟩
  | 12 => ⟨S128x1024, .f32⟩
  | 13 => ⟨S4x2048x1024, .f32⟩
  | 14 => ⟨S4x2048x512, .f32⟩
  | 15 => ⟨S4x2048x512, .f32⟩
  | 16 => ⟨S_, .i32⟩
  | 17 => ⟨S_, .f32⟩
  | 18 => ⟨S4x2051x512, .f32⟩
  | 19 => ⟨S4x2048x512, .f32⟩
  | 20 => ⟨S512x1x1, .f32⟩
  | 21 => ⟨S512, .f32⟩
  | 22 => ⟨S1x1x512, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S4x2048x512, .f32⟩
  | 29 => ⟨S512x1x1, .f32⟩
  | 30 => ⟨S512, .f32⟩
  | 31 => ⟨S1x1x512, .f32⟩
  | 32 => ⟨S4x2048x512, .f32⟩
  | 33 => ⟨S4x2048x512, .f32⟩
  | 34 => ⟨S4x2048x512, .f32⟩
  | 35 => ⟨S4x2048x512, .f32⟩
  | 36 => ⟨S512x1x1, .f32⟩
  | 37 => ⟨S512, .f32⟩
  | 38 => ⟨S1x1x512, .f32⟩
  | 39 => ⟨S4x2048x512, .f32⟩
  | 40 => ⟨S4x2048x512, .f32⟩
  | 41 => ⟨S4x2048x512, .f32⟩
  | 42 => ⟨S4x2048x512, .f32⟩
  | 43 => ⟨S512x1x1, .f32⟩
  | 44 => ⟨S512, .f32⟩
  | 45 => ⟨S1x1x512, .f32⟩
  | 46 => ⟨S4x2048x512, .f32⟩
  | 47 => ⟨S4x2048x512, .f32⟩
  | 48 => ⟨S4x2048x512, .f32⟩
  | 49 => ⟨S1x1x512, .f32⟩
  | 50 => ⟨S4x2048x512, .f32⟩
  | 51 => ⟨S4x2048x512, .f32⟩
  | 52 => ⟨S4x2048x512, .f32⟩
  | 53 => ⟨S4x2048x512, .f32⟩
  | 54 => ⟨S_, .f32⟩
  | 55 => ⟨S4x2048x512, .f32⟩
  | 56 => ⟨S4x2048x512, .f32⟩
  | 57 => ⟨S_, .f32⟩
  | 58 => ⟨S4x2048x512, .f32⟩
  | 59 => ⟨S4x2048x512, .f32⟩
  | 60 => ⟨S4x2048x512, .f32⟩
  | 61 => ⟨S512x136, .f32⟩
  | 62 => ⟨S4x2048x136, .f32⟩
  | 63 => ⟨S4x2048x8, .f32⟩
  | 64 => ⟨S4x2048x64, .f32⟩
  | 65 => ⟨S4x2048x64, .f32⟩
  | 66 => ⟨S8x512, .f32⟩
  | 67 => ⟨S4x2048x512, .f32⟩
  | 68 => ⟨S1x1x512, .f32⟩
  | 69 => ⟨S4x2048x512, .f32⟩
  | 70 => ⟨S4x2048x512, .f32⟩
  | 71 => ⟨S_, .f32⟩
  | 72 => ⟨S4x2048x512, .f32⟩
  | 73 => ⟨S4x2048x512, .f32⟩
  | 74 => ⟨S4x2048x512, .f32⟩
  | 75 => ⟨S4x2048x512, .f32⟩
  | 76 => ⟨S4x2048x512, .i1⟩
  | 77 => ⟨S4x2048x512, .f32⟩
  | 78 => ⟨S4x2048x512, .f32⟩
  | 79 => ⟨S4x2048x512, .f32⟩
  | 80 => ⟨S4x2048x512, .f32⟩
  | 81 => ⟨S4x2048x512, .f32⟩
  | 82 => ⟨S4x2048x512, .f32⟩
  | 83 => ⟨S4x2048x512, .f32⟩
  | 84 => ⟨S4x2048x512, .f32⟩
  | 85 => ⟨S512x64, .f32⟩
  | 86 => ⟨S512x64, .f32⟩
  | 87 => ⟨S_, .f32⟩
  | 88 => ⟨S4x512x64, .f32⟩
  | 89 => ⟨S2048x4x512, .f32⟩
  | 90 => ⟨S2048x4x64, .f32⟩
  | 91 => ⟨S2048x4x64, .f32⟩
  | 92 => ⟨S2048x4x512, .f32⟩
  | 93 => ⟨S_, .f32⟩
  | 94 => ⟨S2048x4x512, .f32⟩
  | 95 => ⟨S_, .i32⟩
  | 96 => ⟨S2048x4x512, .f32⟩
  | 97 => ⟨S2048x4x64, .f32⟩
  | 98 => ⟨S2048x4x64, .f32⟩
  | 99 => ⟨S2048x4x512, .f32⟩
  | 100 => ⟨S512x64, .f32⟩
  | 101 => ⟨S_, .i32⟩
  | 102 => ⟨S4x512x64, .f32⟩
  | 103 => ⟨S2048x4x512, .f32⟩
  | 104 => ⟨S_, .i32⟩
  | 105 => ⟨S_, .i1⟩
  | 106 => ⟨S_, .i32⟩
  | 107 => ⟨S_, .i32⟩
  | 108 => ⟨S1x4x512, .f32⟩
  | 109 => ⟨S4x512, .f32⟩
  | 110 => ⟨S_, .i32⟩
  | 111 => ⟨S_, .i32⟩
  | 112 => ⟨S1x4x64, .f32⟩
  | 113 => ⟨S4x64, .f32⟩
  | 114 => ⟨S_, .i32⟩
  | 115 => ⟨S_, .i32⟩
  | 116 => ⟨S1x4x64, .f32⟩
  | 117 => ⟨S4x64, .f32⟩
  | 118 => ⟨S_, .i32⟩
  | 119 => ⟨S_, .i32⟩
  | 120 => ⟨S1x4x512, .f32⟩
  | 121 => ⟨S4x512, .f32⟩
  | 122 => ⟨S4x512x1, .f32⟩
  | 123 => ⟨S1x512x64, .f32⟩
  | 124 => ⟨S4x512x64, .f32⟩
  | 125 => ⟨S4x512x64, .f32⟩
  | 126 => ⟨S4x512x64, .f32⟩
  | 127 => ⟨S4x512x64, .f32⟩
  | _ => ⟨S4x128x1x2048, .f32⟩

abbrev hbmTy0_1 (i : Nat) : BufTy := match i % 128 with
  | 0 => ⟨S4x512x64, .f32⟩
  | 1 => ⟨S4x512, .f32⟩
  | 2 => ⟨S4x512x1, .f32⟩
  | 3 => ⟨S4x1x64, .f32⟩
  | 4 => ⟨S4x512x64, .f32⟩
  | 5 => ⟨S4x512x64, .f32⟩
  | 6 => ⟨S4x512x64, .f32⟩
  | 7 => ⟨S4x512x64, .f32⟩
  | 8 => ⟨S4x512, .f32⟩
  | 9 => ⟨S1x4x512, .f32⟩
  | 10 => ⟨S_, .i32⟩
  | 11 => ⟨S_, .i32⟩
  | 12 => ⟨S2048x4x512, .f32⟩
  | 13 => ⟨S_, .i32⟩
  | 14 => ⟨S_, .i32⟩
  | 15 => ⟨S4x2048x512, .f32⟩
  | 16 => ⟨S1x1x512, .f32⟩
  | 17 => ⟨S4x2048x512, .f32⟩
  | 18 => ⟨S4x2048x512, .f32⟩
  | 19 => ⟨S4x2048x512, .f32⟩
  | 20 => ⟨S4x2048x512, .f32⟩
  | 21 => ⟨S4x2048x512, .f32⟩
  | 22 => ⟨S_, .f32⟩
  | 23 => ⟨S4x2048x512, .f32⟩
  | 24 => ⟨S4x2048x512, .f32⟩
  | 25 => ⟨S_, .f32⟩
  | 26 => ⟨S4x2048x512, .f32⟩
  | 27 => ⟨S4x2048x512, .f32⟩
  | 28 => ⟨S4x2048x512, .f32⟩
  | 29 => ⟨S4x2048x512, .f32⟩
  | 30 => ⟨S512x128, .f32⟩
  | 31 => ⟨S4x2048x128, .f32⟩
  | 32 => ⟨S4x128x2048, .f32⟩
  | 33 => ⟨S4x128x1x2048, .f32⟩
  | 34 => ⟨S4x128x1x2048, .f32⟩
  | _ => ⟨S4x128x1x2048, .f32⟩

abbrev hbmTy (i : Nat) : BufTy := match i / 128 with
  | 0 => hbmTy0_0 i
  | 1 => hbmTy0_1 i
  | _ => ⟨S4x128x1x2048, .f32⟩

abbrev bufTy : (tb : Table) → Fin (tcTables nBuf tb) → BufTy
  | .hbm, ⟨i, _⟩ => hbmTy i
  | _, _ => ⟨S4x128x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_0 : Ref sig .tc := ⟨.hbm, 54, rfl⟩
abbrev main_v41 : Ref sig .tc := ⟨.hbm, 55, rfl⟩
abbrev main_v42 : Ref sig .tc := ⟨.hbm, 56, rfl⟩
abbrev main_cst_1 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_call1_cst : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_2 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_3 : Ref sig .tc := ⟨.hbm, 93, rfl⟩
abbrev main_v64 : Ref sig .tc := ⟨.hbm, 94, rfl⟩
abbrev main_c_4 : Ref sig .tc := ⟨.hbm, 95, rfl⟩
abbrev main_v65_0 : Ref sig .tc := ⟨.hbm, 96, rfl⟩
abbrev main_v65_1 : Ref sig .tc := ⟨.hbm, 97, rfl⟩
abbrev main_v65_2 : Ref sig .tc := ⟨.hbm, 98, rfl⟩
abbrev main_v65_3 : Ref sig .tc := ⟨.hbm, 99, rfl⟩
abbrev main_v65_4 : Ref sig .tc := ⟨.hbm, 100, rfl⟩
abbrev main_v65_5 : Ref sig .tc := ⟨.hbm, 101, rfl⟩
abbrev main_v65_6 : Ref sig .tc := ⟨.hbm, 102, rfl⟩
abbrev main_v65_7 : Ref sig .tc := ⟨.hbm, 103, rfl⟩
abbrev main_while0c_c_14 : Ref sig .tc := ⟨.hbm, 104, rfl⟩
abbrev main_while0c_v84 : Ref sig .tc := ⟨.hbm, 105, rfl⟩
abbrev main_while0b_call2_c : Ref sig .tc := ⟨.hbm, 106, rfl⟩
abbrev main_while0b_call2_c_0 : Ref sig .tc := ⟨.hbm, 107, rfl⟩
abbrev main_while0b_call2_v0 : Ref sig .tc := ⟨.hbm, 108, rfl⟩
abbrev main_while0b_v84 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_v0 : Ref sig .tc := ⟨.hbm, 112, rfl⟩
abbrev main_while0b_v85 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_v0 : Ref sig .tc := ⟨.hbm, 116, rfl⟩
abbrev main_while0b_v86 : Ref sig .tc := ⟨.hbm, 117, rfl⟩
abbrev main_while0b_call5_c : Ref sig .tc := ⟨.hbm, 118, rfl⟩
abbrev main_while0b_call5_c_0 : Ref sig .tc := ⟨.hbm, 119, rfl⟩
abbrev main_while0b_call5_v0 : Ref sig .tc := ⟨.hbm, 120, rfl⟩
abbrev main_while0b_v87 : Ref sig .tc := ⟨.hbm, 121, rfl⟩
abbrev main_while0b_v88 : Ref sig .tc := ⟨.hbm, 122, rfl⟩
abbrev main_while0b_v89 : Ref sig .tc := ⟨.hbm, 123, rfl⟩
abbrev main_while0b_v90 : Ref sig .tc := ⟨.hbm, 124, rfl⟩
abbrev main_while0b_v91 : Ref sig .tc := ⟨.hbm, 125, rfl⟩
abbrev main_while0b_v92 : Ref sig .tc := ⟨.hbm, 126, rfl⟩
abbrev main_while0b_v93 : Ref sig .tc := ⟨.hbm, 127, rfl⟩
abbrev main_while0b_v94 : Ref sig .tc := ⟨.hbm, 128, rfl⟩
abbrev main_while0b_v95 : Ref sig .tc := ⟨.hbm, 129, rfl⟩
abbrev main_while0b_v96 : Ref sig .tc := ⟨.hbm, 130, rfl⟩
abbrev main_while0b_v97 : Ref sig .tc := ⟨.hbm, 131, rfl⟩
abbrev main_while0b_v98 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_call6_v0 : Ref sig .tc := ⟨.hbm, 137, rfl⟩
abbrev main_while0b_call6_c : Ref sig .tc := ⟨.hbm, 138, rfl⟩
abbrev main_while0b_call6_c_0 : Ref sig .tc := ⟨.hbm, 139, rfl⟩
abbrev main_while0b_v103 : Ref sig .tc := ⟨.hbm, 140, rfl⟩
abbrev main_while0b_c_14 : Ref sig .tc := ⟨.hbm, 141, rfl⟩
abbrev main_while0b_v104 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_5 : Ref sig .tc := ⟨.hbm, 150, rfl⟩
abbrev main_v73 : Ref sig .tc := ⟨.hbm, 151, rfl⟩
abbrev main_v74 : Ref sig .tc := ⟨.hbm, 152, rfl⟩
abbrev main_cst_6 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩

abbrev nD : Nat := 1
abbrev τ : Topo := Topo.v7x

variable {F : FTy → Type} [FloatOps F]

abbrev main_while0_count : Scf.Loop 32 := ⟨0#32, 2048#32, 1#32⟩
-- ==== Proof.KStep.lean ====
module

public import proofs.«01_k».proof.Proof.Gen.KernelIdeal.Loops

@[expose] public section

set_option maxRecDepth 16384

noncomputable section

/-! # One step of the kernel's scan

A trip of the kernel's loop makes eight steps, the rows `8k … 8k+7`. The printed trip spells each of the eight out; here
the step is one function, and the printed trip is eight of it. -/

namespace Cert.KernelIdeal.Scan

open Idealize.ShloMosaic Idealize.ShloMosaic.TcCoe Idealize.ShloMosaic.Tactic
open Cert.KernelIdeal Cert.KernelIdeal.Gen

variable {F : FTy → Type} [FloatOps F]

/-- Each of the eight rows lies in the block. -/
theorem slice_row : ∀ j : Fin 8, S8x512.Slices ![j.val, 0] S1x512 := by decide
/-- Each of the eight columns lies in the transposed block. -/
theorem slice_col : ∀ j : Fin 8, S128x8.Slices ![0, j.val] S128x1 := by decide

/-- The first eight powers of a row, one per row of the block. -/
def powBlk (r : FVec F S1x512 .f32) : FVec F S8x512 .f32 :=
  have p2 : FVec F S1x512 .f32 := mulf r r
  have p3 : FVec F S1x512 .f32 := mulf p2 r
  have p4 : FVec F S1x512 .f32 := mulf p3 r
  have p5 : FVec F S1x512 .f32 := mulf p4 r
  have p6 : FVec F S1x512 .f32 := mulf p5 r
  have p7 : FVec F S1x512 .f32 := mulf p6 r
  have p8 : FVec F S1x512 .f32 := mulf p7 r
  concatenate S8x512 0 [⟨S1x512, r⟩, ⟨S1x512, p2⟩, ⟨S1x512, p3⟩, ⟨S1x512, p4⟩, ⟨S1x512, p5⟩, ⟨S1x512, p6⟩, ⟨S1x512, p7⟩, ⟨S1x512, p8⟩] concatenates_S1x512_S1x512_S1x512_S1x512_S1x512_S1x512_S1x512_S1x512_S8x512_d0

/-- The eighth power of a row, on eight rows. -/
def pow8 (r : FVec F S1x512 .f32) : FVec F S8x512 .f32 :=
  broadcastTo S8x512 (mulf (mulf (mulf (mulf (mulf (mulf (mulf r r) r) r) r) r) r) r) broadcasts_S1x512_S8x512

/-- The first sixty-four powers of a row, one per row: eight blocks, each the one before times the eighth power. -/
def decay (r : FVec F S1x512 .f32) : FVec F S64x512 .f32 :=
  have b1 : FVec F S8x512 .f32 := powBlk r
  have b2 : FVec F S8x512 .f32 := mulf b1 (pow8 r)
  have b3 : FVec F S8x512 .f32 := mulf b2 (pow8 r)
  have b4 : FVec F S8x512 .f32 := mulf b3 (pow8 r)
  have b5 : FVec F S8x512 .f32 := mulf b4 (pow8 r)
  have b6 : FVec F S8x512 .f32 := mulf b5 (pow8 r)
  have b7 : FVec F S8x512 .f32 := mulf b6 (pow8 r)
  have b8 : FVec F S8x512 .f32 := mulf b7 (pow8 r)
  concatenate S64x512 0 [⟨S8x512, b1⟩, ⟨S8x512, b2⟩, ⟨S8x512, b3⟩, ⟨S8x512, b4⟩, ⟨S8x512, b5⟩, ⟨S8x512, b6⟩, ⟨S8x512, b7⟩, ⟨S8x512, b8⟩] concatenates_S8x512_S8x512_S8x512_S8x512_S8x512_S8x512_S8x512_S8x512_S64x512_d0

/-- The state after the step at row `j` of a group: decay times the state, plus the row's input times the column's
    first half. -/
def sub (E D : FVec F S8x512 .f32) (T : FVec F S128x8 .f32) (j : Fin 8) (h : FVec F S64x512 .f32) : FVec F S64x512 .f32 :=
  addf (mulf (decay (extractStridedSlice S1x512 ![j.val, 0] E (slice_row j))) h)
    (mulf (broadcastTo S64x512 (extractStridedSlice S64x1 ![0, 0] (extractStridedSlice S128x1 ![0, j.val] T (slice_col j)) slices_S128x1_o0_0_S64x1) broadcasts_S64x1_S64x512)
      (broadcastTo S64x512 (extractStridedSlice S1x512 ![j.val, 0] D (slice_row j)) broadcasts_S1x512_S64x512))

/-- The output row of the step at row `j`: the state times the column's second half, summed over the state's rows. -/
def row (T : FVec F S128x8 .f32) (j : Fin 8) (h : FVec F S64x512 .f32) : FVec F S1x512 .f32 :=
  shapeCast S1x512 (multiReduction .add [0] S512 (mulf h (broadcastTo S64x512 (extractStridedSlice S64x1 ![64, 0] (extractStridedSlice S128x1 ![0, j.val] T (slice_col j)) slices_S128x1_o64_0_S64x1) broadcasts_S64x1_S64x512)) 0x00000000#32 reduces_S64x512_S512 (.inl rfl) rfl) shapeCasts_S512_S1x512

/-- The state after the first `n` steps of a group. -/
def grp (E D : FVec F S8x512 .f32) (T : FVec F S128x8 .f32) (h : FVec F S64x512 .f32) : ℕ → FVec F S64x512 .f32
  | 0 => h
  | n + 1 => sub E D T (Fin.ofNat 8 n) (grp E D T h n)

/-- The eight output rows of a group. -/
def rows (E D : FVec F S8x512 .f32) (T : FVec F S128x8 .f32) (h : FVec F S64x512 .f32) : FVec F S8x512 .f32 :=
  concatenate S8x512 0 [⟨S1x512, row T 0 (grp E D T h 1)⟩, ⟨S1x512, row T 1 (grp E D T h 2)⟩, ⟨S1x512, row T 2 (grp E D T h 3)⟩, ⟨S1x512, row T 3 (grp E D T h 4)⟩, ⟨S1x512, row T 4 (grp E D T h 5)⟩, ⟨S1x512, row T 5 (grp E D T h 6)⟩, ⟨S1x512, row T 6 (grp E D T h 7)⟩, ⟨S1x512, row T 7 (grp E D T h 8)⟩] concatenates_S1x512_S1x512_S1x512_S1x512_S1x512_S1x512_S1x512_S1x512_S8x512_d0

section trip

variable (arg15 arg16 : Memref sig .tc .vmem S2048x512 .f32) (arg17 : Memref sig .tc .vmem S2048x128 .f32)
  (X15 : BufTy.Contents (Elt F) arg15.view.ty) (X16 : BufTy.Contents (Elt F) arg16.view.ty) (X17 : BufTy.Contents (Elt F) arg17.view.ty)
  (k : Fin k0_t1_loop.trips) (acc : FVec F S64x512 .f32)

/-- The printed state after the first step. -/
theorem st1 : trip_k0_t1.sl.r_3 arg15 arg16 arg17 X15 X16 X17 k acc = sub (trip_k0_t1.sl.r_2 arg15 X15 k) (trip_k0_t1.sl.r arg16 X16 k) (trip_k0_t1.sl.r_1 arg17 X17 k) 0 acc := by
  rfl

/-- The printed state after the second step. -/
theorem st2 : trip_k0_t1.sl.r_8 arg15 arg16 arg17 X15 X16 X17 k acc = sub (trip_k0_t1.sl.r_2 arg15 X15 k) (trip_k0_t1.sl.r arg16 X16 k) (trip_k0_t1.sl.r_1 arg17 X17 k) 1 (trip_k0_t1.sl.r_3 arg15 arg16 arg17 X15 X16 X17 k acc) := by
  rfl

/-- The printed state after the fourth step. -/
theorem st4 : trip_k0_t1.sl.r_22 arg15 arg16 arg17 X15 X16 X17 k acc = sub (trip_k0_t1.sl.r_2 arg15 X15 k) (trip_k0_t1.sl.r arg16 X16 k) (trip_k0_t1.sl.r_1 arg17 X17 k) 3 (sub (trip_k0_t1.sl.r_2 arg15 X15 k) (trip_k0_t1.sl.r arg16 X16 k) (trip_k0_t1.sl.r_1 arg17 X17 k) 2 (trip_k0_t1.sl.r_8 arg15 arg16 arg17 X15 X16 X17 k acc)) := by
  rfl

/-- The printed state after the seventh step. -/
theorem st7 : trip_k0_t1.sl.r_38 arg15 arg16 arg17 X15 X16 X17 k acc = sub (trip_k0_t1.sl.r_2 arg15 X15 k) (trip_k0_t1.sl.r arg16 X16 k) (trip_k0_t1.sl.r_1 arg17 X17 k) 6 (sub (trip_k0_t1.sl.r_2 arg15 X15 k) (trip_k0_t1.sl.r arg16 X16 k) (trip_k0_t1.sl.r_1 arg17 X17 k) 5 (sub (trip_k0_t1.sl.r_2 arg15 X15 k) (trip_k0_t1.sl.r arg16 X16 k) (trip_k0_t1.sl.r_1 arg17 X17 k) 4 (trip_k0_t1.sl.r_22 arg15 arg16 arg17 X15 X16 X17 k acc))) := by
  rfl

/-- The printed first row. -/
theorem rw1 : trip_k0_t1.sl.r_4 arg15 arg16 arg17 X15 X16 X17 k acc = row (trip_k0_t1.sl.r_1 arg17 X17 k) 0 (trip_k0_t1.sl.r_3 arg15 arg16 arg17 X15 X16 X17 k acc) := by
  rfl

/-- The printed second row. -/
theorem rw2 : trip_k0_t1.sl.r_9 arg15 arg16 arg17 X15 X16 X17 k acc = row (trip_k0_t1.sl.r_1 arg17 X17 k) 1 (trip_k0_t1.sl.r_8 arg15 arg16 arg17 X15 X16 X17 k acc) := by
  rfl

/-- The printed third row. -/
theorem rw3 : trip_k0_t1.sl.r_21 arg15 arg16 arg17 X15 X16 X17 k acc = row (trip_k0_t1.sl.r_1 arg17 X17 k) 2 (sub (trip_k0_t1.sl.r_2 arg15 X15 k) (trip_k0_t1.sl.r arg16 X16 k) (trip_k0_t1.sl.r_1 arg17 X17 k) 2 (trip_k0_t1.sl.r_8 arg15 arg16 arg17 X15 X16 X17 k acc)) := by
  rfl

/-- The printed fourth row. -/
theorem rw4 : trip_k0_t1.sl.r_23 arg15 arg16 arg17 X15 X16 X17 k acc = row (trip_k0_t1.sl.r_1 arg17 X17 k) 3 (trip_k0_t1.sl.r_22 arg15 arg16 arg17 X15 X16 X17 k acc) := by
  rfl

/-- The printed fifth row. -/
theorem rw5 : trip_k0_t1.sl.r_33 arg15 arg16 arg17 X15 X16 X17 k acc = row (trip_k0_t1.sl.r_1 arg17 X17 k) 4 (sub (trip_k0_t1.sl.r_2 arg15 X15 k) (trip_k0_t1.sl.r arg16 X16 k) (trip_k0_t1.sl.r_1 arg17 X17 k) 4 (trip_k0_t1.sl.r_22 arg15 arg16 arg17 X15 X16 X17 k acc)) := by
  rfl

/-- The printed sixth row. -/
theorem rw6 : trip_k0_t1.sl.r_37 arg15 arg16 arg17 X15 X16 X17 k acc = row (trip_k0_t1.sl.r_1 arg17 X17 k) 5 (sub (trip_k0_t1.sl.r_2 arg15 X15 k) (trip_k0_t1.sl.r arg16 X16 k) (trip_k0_t1.sl.r_1 arg17 X17 k) 5 (sub (trip_k0_t1.sl.r_2 arg15 X15 k) (trip_k0_t1.sl.r arg16 X16 k) (trip_k0_t1.sl.r_1 arg17 X17 k) 4 (trip_k0_t1.sl.r_22 arg15 arg16 arg17 X15 X16 X17 k acc))) := by
  rfl

/-- The printed seventh row. -/
theorem rw7 : trip_k0_t1.sl.r_39 arg15 arg16 arg17 X15 X16 X17 k acc = row (trip_k0_t1.sl.r_1 arg17 X17 k) 6 (trip_k0_t1.sl.r_38 arg15 arg16 arg17 X15 X16 X17 k acc) := by
  rfl

end trip

/-- The printed trip's result is the state after its eight steps. -/
theorem tripR_eq (𝒱 : Variants) (c : Dev nD) (bd : Option 𝒱.V) (i : grid0.Coords) (arg1 : Memref sig .tc .vmem S1x2048x128 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x8 .f32) (harg8 : arg8.IsWhole) (arg9 : Memref sig .tc .vmem S8x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x2048x128 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x128 .f32) (harg17 : arg17.IsWhole) (arg18 : Memref sig .tc .vmem S2048x512 .f32) (harg18 : arg18.IsWhole)
    (X15 : BufTy.Contents (Elt F) arg15.view.ty) (X16 : BufTy.Contents (Elt F) arg16.view.ty) (X17 : BufTy.Contents (Elt F) arg17.view.ty)
    (k : Fin k0_t1_loop.trips) (acc : FVec F S64x512 .f32) :
    tripR_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X15 X16 X17 k acc
      = grp (trip_k0_t1.sl.r_2 arg15 X15 k) (trip_k0_t1.sl.r arg16 X16 k) (trip_k0_t1.sl.r_1 arg17 X17 k) acc 8 := by
  unfold tripR_k0_t1 trip_k0_t1
  show sub (trip_k0_t1.sl.r_2 arg15 X15 k) (trip_k0_t1.sl.r arg16 X16 k) (trip_k0_t1.sl.r_1 arg17 X17 k) 7 (trip_k0_t1.sl.r_38 arg15 arg16 arg17 X15 X16 X17 k acc) = _
  rw [st7, st4, st2, st1]
  rfl

/-- The printed trip's one piece is its eight output rows, at rows `8k … 8k+7`. -/
theorem tripL_eq (𝒱 : Variants) (c : Dev nD) (bd : Option 𝒱.V) (i : grid0.Coords) (arg1 : Memref sig .tc .vmem S1x2048x128 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x8 .f32) (harg8 : arg8.IsWhole) (arg9 : Memref sig .tc .vmem S8x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x2048x128 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x128 .f32) (harg17 : arg17.IsWhole) (arg18 : Memref sig .tc .vmem S2048x512 .f32) (harg18 : arg18.IsWhole)
    (X15 : BufTy.Contents (Elt F) arg15.view.ty) (X16 : BufTy.Contents (Elt F) arg16.view.ty) (X17 : BufTy.Contents (Elt F) arg17.view.ty)
    (k : Fin k0_t1_loop.trips) (acc : FVec F S64x512 .f32) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X15 X16 X17 k acc
      = [⟨Rect.unit (s := S2048x512) (k0_off1 k) S8x512.size (k0_off1_inb k), shapeCast S8x512 (rows (trip_k0_t1.sl.r_2 arg15 X15 k) (trip_k0_t1.sl.r arg16 X16 k) (trip_k0_t1.sl.r_1 arg17 X17 k) acc) shapeCasts_S8x512_S8x512⟩] := by
  unfold tripL_k0_t1 trip_k0_t1
  show [(⟨Rect.unit (s := S2048x512) (k0_off1 k) S8x512.size (k0_off1_inb k), k0_pay4 (trip_k0_t1.sl.r_4 arg15 arg16 arg17 X15 X16 X17 k acc) (trip_k0_t1.sl.r_9 arg15 arg16 arg17 X15 X16 X17 k acc) (trip_k0_t1.sl.r_21 arg15 arg16 arg17 X15 X16 X17 k acc) (trip_k0_t1.sl.r_23 arg15 arg16 arg17 X15 X16 X17 k acc) (trip_k0_t1.sl.r_33 arg15 arg16 arg17 X15 X16 X17 k acc) (trip_k0_t1.sl.r_37 arg15 arg16 arg17 X15 X16 X17 k acc) (trip_k0_t1.sl.r_38 arg15 arg16 arg17 X15 X16 X17 k acc) (trip_k0_t1.sl.r_39 arg15 arg16 arg17 X15 X16 X17 k acc) _ _ _ _ _ _ _⟩ : View.Piece (Elt F) S2048x512 .f32)] = _
  rw [rw1, rw2, rw3, rw4, rw5, rw6, rw7, st7, st4, st2, st1]
  rfl

end Cert.KernelIdeal.Scan

end
-- ==== Proof.KLoop.lean ====
module

public import proofs.«01_k».proof.Proof.KStep
public import Idealize.ShloMosaic.Lib.ValueIdx
public import Idealize.ShloMosaic.Lib.WritesUnit
public import Idealize.ShloMosaic.Lib.Pipeline.Value

@[expose] public section

set_option maxRecDepth 16384

noncomputable section

/-! # The kernel's loop over the time steps

The loop makes 256 trips of eight steps. Its state and what it leaves in the buffer of output rows, as functions of
the three arrays it reads: the step sizes, the scaled inputs, and the two projections side by side. -/

namespace Cert.KernelIdeal.Scan

open Idealize.ShloMosaic Idealize.ShloMosaic.TcCoe Idealize.ShloMosaic.Tactic
open Idealize.ShloMosaic.ValueIdx Idealize.ShloMosaic.Pipeline
open Cert.KernelIdeal Cert.KernelIdeal.Gen

variable {F : FTy → Type} [FloatOps F]

/-- The loop runs once for every group of eight steps. -/
theorem trips_eq : k0_t1_loop.trips = 256 := by decide +kernel

/-- Rows `8k … 8k+7` of a wide array. -/
def win (A : FVec F S2048x512 .f32) (k : Fin 256) : FVec F S8x512 .f32 :=
  fun x => A (ix2 ⟨8 * k.val + (x 0).val, by have := (x 0).isLt; have h8 : S8x512.size 0 = 8 := rfl; omega⟩ (x 1))

/-- Rows `8k … 8k+7` of the array of the two projections. -/
def winB (A : FVec F S2048x128 .f32) (k : Fin 256) : FVec F S8x128 .f32 :=
  fun x => A (ix2 ⟨8 * k.val + (x 0).val, by have := (x 0).isLt; have h8 : S8x128.size 0 = 8 := rfl; omega⟩ (x 1))

section pure

variable (DT DU : FVec F S2048x512 .f32) (BC : FVec F S2048x128 .f32) (init : FVec F S64x512 .f32)

/-- The state before trip `k`. -/
def stateAt : ℕ → FVec F S64x512 .f32
  | 0 => init
  | k + 1 => if h : k < 256 then grp (k0_pay7 (win DT ⟨k, h⟩)) (win DU ⟨k, h⟩) (k0_pay6 (winB BC ⟨k, h⟩)) (stateAt k) 8 else stateAt k

/-- The eight output rows of trip `k`. -/
def rowsAt (k : Fin 256) : FVec F S8x512 .f32 :=
  rows (k0_pay7 (win DT k)) (win DU k) (k0_pay6 (winB BC k)) (stateAt DT DU BC init k.val)

/-- All output rows. -/
def ysArr : FVec F S2048x512 .f32 := fun y =>
  rowsAt DT DU BC init ⟨(y 0).val / 8, by have h : (y 0).val < 2048 := (y 0).isLt; omega⟩ (ix2 ⟨(y 0).val % 8, Nat.mod_lt _ (by omega)⟩ (y 1))

end pure

/-- Eight rows read from a whole buffer are those rows of its contents. -/
theorem readAt_win (v : View sig .tc .vmem S2048x512 .f32) (X : v.ty.Contents (Elt F)) (A : FVec F S2048x512 .f32)
    (hA : v.read (Elt F) X = A) (k : Fin k0_t1_loop.trips) (hk : k.val < 256) :
    v.readAt (Elt F) (Rect.unit (s := S2048x512) (k0_off1 k) S8x512.size (k0_off1_inb k)).toLoadRect X = win A ⟨k.val, hk⟩ := by
  subst hA
  funext x
  show v.read (Elt F) X _ = v.read (Elt F) X _
  congr 1
  funext a
  have h0 : k0_off1 k 0 = 8 * k.val := congrFun (k0_off1_eq k) 0
  have h1 : k0_off1 k 1 = 0 := congrFun (k0_off1_eq k) 1
  apply Fin.ext
  match a with
  | ⟨0, _⟩ => exact (congrArg (· + 1 * (x 0).val) h0).trans (by dsimp only; rw [Nat.one_mul])
  | ⟨1, _⟩ => exact (congrArg (· + 1 * (x 1).val) h1).trans (by dsimp only; rw [Nat.one_mul, Nat.zero_add])

/-- The same of the buffer that holds the two projections. -/
theorem readAt_winB (v : View sig .tc .vmem S2048x128 .f32) (X : v.ty.Contents (Elt F)) (A : FVec F S2048x128 .f32)
    (hA : v.read (Elt F) X = A) (k : Fin k0_t1_loop.trips) (hk : k.val < 256) :
    v.readAt (Elt F) (Rect.unit (s := S2048x128) (k0_off2 k) S8x128.size (k0_off2_inb k)).toLoadRect X = winB A ⟨k.val, hk⟩ := by
  subst hA
  funext x
  show v.read (Elt F) X _ = v.read (Elt F) X _
  congr 1
  funext a
  have h0 : k0_off2 k 0 = 8 * k.val := congrFun (k0_off2_eq k) 0
  have h1 : k0_off2 k 1 = 0 := congrFun (k0_off2_eq k) 1
  apply Fin.ext
  match a with
  | ⟨0, _⟩ => exact (congrArg (· + 1 * (x 0).val) h0).trans (by dsimp only; rw [Nat.one_mul])
  | ⟨1, _⟩ => exact (congrArg (· + 1 * (x 1).val) h1).trans (by dsimp only; rw [Nat.one_mul, Nat.zero_add])

/-- Before trip `k` of the printed loop the carried value is `stateAt k`, and the first `8k` rows of the output buffer hold
    `ysArr`. -/
theorem st_eq (𝒱 : Variants) (c : Dev nD) (bd : Option 𝒱.V) (i : grid0.Coords) (arg1 : Memref sig .tc .vmem S1x2048x128 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x8 .f32) (harg8 : arg8.IsWhole) (arg9 : Memref sig .tc .vmem S8x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x2048x128 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x128 .f32) (harg17 : arg17.IsWhole) (arg18 : Memref sig .tc .vmem S2048x512 .f32) (harg18 : arg18.IsWhole)
    (X15 : BufTy.Contents (Elt F) arg15.view.ty) (X16 : BufTy.Contents (Elt F) arg16.view.ty) (X17 : BufTy.Contents (Elt F) arg17.view.ty)
    (G : BufTy.Contents (Elt F) arg18.view.ty) (init : FVec F S64x512 .f32)
    (DT DU : FVec F S2048x512 .f32) (BC : FVec F S2048x128 .f32)
    (h15 : arg15.view.read (Elt F) X15 = DT) (h16 : arg16.view.read (Elt F) X16 = DU) (h17 : arg17.view.read (Elt F) X17 = BC) (k : ℕ) (hk : k ≤ 256) :
    (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X15 X16 X17 init k).1 = stateAt DT DU BC init k
      ∧ ∀ y : S2048x512.Idx, (y 0).val < 8 * k → arg18.view.read (Elt F) (arg18.view.writes (Elt F) G (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X15 X16 X17 init k).2) y = ysArr DT DU BC init y := by
  induction k with
  | zero => exact ⟨rfl, fun y hy => absurd hy (by omega)⟩
  | succ k ih =>
    obtain ⟨ih1, ih2⟩ := ih (by omega)
    have hk' : k < 256 := by omega
    have hkt : k < k0_t1_loop.trips := by rw [trips_eq]; exact hk'
    have e := st_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X15 X16 X17 init ⟨k, hkt⟩
    have eE : trip_k0_t1.sl.r_2 arg15 X15 ⟨k, hkt⟩ = k0_pay7 (win DT ⟨k, hk'⟩) := congrArg k0_pay7 (readAt_win arg15.view X15 DT h15 ⟨k, hkt⟩ hk')
    have eD : trip_k0_t1.sl.r arg16 X16 ⟨k, hkt⟩ = win DU ⟨k, hk'⟩ := readAt_win arg16.view X16 DU h16 ⟨k, hkt⟩ hk'
    have eT : trip_k0_t1.sl.r_1 arg17 X17 ⟨k, hkt⟩ = k0_pay6 (winB BC ⟨k, hk'⟩) := congrArg k0_pay6 (readAt_winB arg17.view X17 BC h17 ⟨k, hkt⟩ hk')
    rw [e]
    dsimp only
    rw [tripR_eq, tripL_eq, ih1, eE, eD, eT, shapeCast_self]
    refine ⟨?_, fun y hy => ?_⟩
    · rw [stateAt, dif_pos hk']
    · rw [List.cons_append, List.nil_append]
      by_cases hlt : (y 0).val < 8 * k
      · exact (View.read_writes_cons_unit_of_not_mem arg18.view G (off' := ![8 * k, 0]) _ _ _ y (k0_off1_eq ⟨k, hkt⟩) 0 (.inl hlt)).trans (ih2 y hlt)
      · have hq : (y 0).val / 8 = k := by omega
        have hr : (y 0).val = 8 * k + (y 0).val % 8 := by omega
        refine (View.read_writes_cons_unit_of_mem arg18.view G (off' := ![8 * k, 0]) _ _ _ y (ix2 ⟨(y 0).val % 8, Nat.mod_lt _ (by omega)⟩ (y 1)) (k0_off1_eq ⟨k, hkt⟩) (fun a => by
          match a with
          | ⟨0, _⟩ => exact hr
          | ⟨1, _⟩ => exact (Nat.zero_add _).symm)).trans ?_
        exact congrFun (congrArg (rowsAt DT DU BC init) (Fin.ext hq.symm : (⟨k, hk'⟩ : Fin 256) = ⟨(y 0).val / 8, by omega⟩)) _

end Cert.KernelIdeal.Scan
-- ==== Proof.KRun.lean ====
module

public import proofs.«01_k».proof.Proof.KLoop
public import proofs.«01_k».proof.Proof.Gen.KernelIdeal.Frame

@[expose] public section

set_option maxRecDepth 16384

noncomputable section

/-! # The kernel's body

One grid point: what the body leaves in the output block, and its triple. -/

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

/-- The output block of one grid point: the scan over the step sizes, the scaled inputs and the projections computed from
    the block, gated, projected back and added to the block. -/
def outVal (x0 : Vec F S1x2048x128 .f32) (x1 x2 : Vec F S128x512 .f32) (x3 : Vec F S4x512 .f32) (x4 : Vec F S1x512 .f32) (x5 x6 : Vec F S512x64 .f32)
    (x7 : Vec F S512x8 .f32) (x8 : Vec F S8x512 .f32) (x9 : Vec F S1x512 .f32) (x11 : Vec F S1x512 .f32) (x12 : Vec F S512x128 .f32) : FVec F S1x2048x128 .f32 :=
  k0_pay5 (k0_pay78 x0) (k0_pay79 x0 x2) (k0_pay80 x0 x1 x3 x4)
    (ysArr (k0_pay82 (k0_pay80 x0 x1 x3 x4) x7 x8 x9) (k0_pay83 (k0_pay80 x0 x1 x3 x4) x7 x8 x9) (k0_pay1 (k0_pay84 (k0_pay80 x0 x1 x3 x4) x5 x6)) k0_pay2)
    x11 x12

/-- A load of a whole memref from its first cell reads its contents. -/
theorem rd {S : Shape} (M : Memref sig .tc .vmem S .f32) (h : M.IsWhole) (x : Vec F S .f32) {off : Fin S.rank → Nat} (h0 : off = fun _ => 0)
    (inb : ∀ a, off a + S.size a ≤ S.size a) :
    M.view.readAt (Elt F) (Rect.unit off S.size inb).toLoadRect (h.unread x) = x := by
  rw [View.readAt_eq_ld, h.read_unread]
  exact View.ld_unit_zero h0 inb x

/-- One store through a whole memref leaves its payload. -/
theorem rdw {S : Shape} {sp : Space} (v : View sig .tc sp S .f32) (g : BufTy.Contents (Elt F) v.ty) {off : Fin S.rank → Nat} (h0 : off = fun _ => 0)
    (inb : ∀ a, off a + S.size a ≤ S.size a) (w : S.Idx → Elt F .f32) :
    v.read (Elt F) (v.writes (Elt F) g [(⟨Rect.unit off S.size inb, w⟩ : View.Piece (Elt F) S .f32)]) = w := by
  subst h0
  rw [View.read_writes_eq_canon v g _ (fun y => ⟨_, List.mem_singleton_self _, by
    show y ∈ (Rect.whole S).set; rw [Rect.set_whole]; exact Finset.mem_univ y⟩)]
  exact View.canon_unit_zero rfl inb w

/-- Two zero offsets. -/
theorem z2 : (![0, 0] : Fin 2 → ℕ) = fun _ => 0 := by decide

/-- Three zero offsets. -/
theorem z3 : (![0, 0, 0] : Fin 3 → ℕ) = fun _ => 0 := by decide

-- (the run's proof term is large: checking it walks past the default budget)
set_option maxHeartbeats 1000000 in
/-- The body's triple: on whole staging memrefs, the inputs' at their contents and the output's at anything, the body runs
    to the continuation holding the inputs' as they were, the output's at `outVal` of them, the scratch at some contents. -/
theorem kernelRun (c : Dev nD) (i : grid0.Coords) (arg1 : Memref sig .tc .vmem S1x2048x128 .f32) (harg1 : arg1.IsWhole) (arg2 : Memref sig .tc .vmem S128x512 .f32) (harg2 : arg2.IsWhole) (arg3 : Memref sig .tc .vmem S128x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S512x8 .f32) (harg8 : arg8.IsWhole) (arg9 : Memref sig .tc .vmem S8x512 .f32) (harg9 : arg9.IsWhole) (arg10 : Memref sig .tc .vmem S1x512 .f32) (harg10 : arg10.IsWhole) (arg11 : Memref sig .tc .vmem S64x512 .f32) (harg11 : arg11.IsWhole) (arg12 : Memref sig .tc .vmem S1x512 .f32) (harg12 : arg12.IsWhole) (arg13 : Memref sig .tc .vmem S512x128 .f32) (harg13 : arg13.IsWhole) (arg14 : Memref sig .tc .vmem S1x2048x128 .f32) (harg14 : arg14.IsWhole) (arg15 : Memref sig .tc .vmem S2048x512 .f32) (harg15 : arg15.IsWhole) (arg16 : Memref sig .tc .vmem S2048x512 .f32) (harg16 : arg16.IsWhole) (arg17 : Memref sig .tc .vmem S2048x128 .f32) (harg17 : arg17.IsWhole) (arg18 : Memref sig .tc .vmem S2048x512 .f32) (harg18 : arg18.IsWhole)
    (x0 : Vec F S1x2048x128 .f32) (x1 : Vec F S128x512 .f32) (x2 : Vec F S128x512 .f32) (x3 : Vec F S4x512 .f32) (x4 : Vec F S1x512 .f32) (x5 : Vec F S512x64 .f32) (x6 : Vec F S512x64 .f32) (x7 : Vec F S512x8 .f32) (x8 : Vec F S8x512 .f32) (x9 : Vec F S1x512 .f32) (x10 : Vec F S64x512 .f32) (x11 : Vec F S1x512 .f32) (x12 : Vec F S512x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (outVal x0 x1 x2 x3 x4 x5 x6 x7 x8 x9 x11 x12) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0__mamba_fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
    intro E K
    simp only [cc0__mamba_fused_eq_skeleton]; unfold cc0__mamba_fused_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro
      have e0 := rd arg1 harg1 x0 z3 inb_S1x2048x128_S1x2048x128_0_0_0
      have e1 := rd arg2 harg2 x1 z2 inb_S128x512_S128x512_0_0
      have e2 := rd arg3 harg3 x2 z2 inb_S128x512_S128x512_0_0
      have e3 := rd arg4 harg4 x3 z2 inb_S4x512_S4x512_0_0
      have e4 := rd arg5 harg5 x4 z2 inb_S1x512_S1x512_0_0
      have e5 := rd arg6 harg6 x5 z2 inb_S512x64_S512x64_0_0
      have e6 := rd arg7 harg7 x6 z2 inb_S512x64_S512x64_0_0
      have e7 := rd arg8 harg8 x7 z2 inb_S512x8_S512x8_0_0
      have e8 := rd arg9 harg9 x8 z2 inb_S8x512_S8x512_0_0
      have e9 := rd arg10 harg10 x9 z2 inb_S1x512_S1x512_0_0
      have e11 := rd arg12 harg12 x11 z2 inb_S1x512_S1x512_0_0
      have e12 := rd arg13 harg13 x12 z2 inb_S512x128_S512x128_0_0
      have hu := congr (congr (congr (congrArg k0_pay80 e0) e1) e3) e4
      have h82 := congr (congr (congr (congrArg k0_pay82 hu) e7) e8) e9
      have h83 := congr (congr (congr (congrArg k0_pay83 hu) e7) e8) e9
      have h84 := congrArg k0_pay1 (congr (congr (congrArg k0_pay84 hu) e5) e6)
      have h15 := (rdw arg15.view arg15.view.junk z2 inb_S2048x512_S2048x512_0_0 _).trans h82
      have h16 := (rdw arg16.view arg16.view.junk z2 inb_S2048x512_S2048x512_0_0 _).trans h83
      have h17 := (rdw arg17.view arg17.view.junk z2 inb_S2048x128_S2048x128_0_0 _).trans h84
      have hst := (st_eq (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 _ _ _ fs3 k0_pay2 _ _ _ h15 h16 h17 k0_t1_loop.trips trips_eq.le).2
      have hr := funext fun y : S2048x512.Idx => hst y (by rw [trips_eq]; exact (y 0).isLt)
      have hv := (View.ld_unit_zero (S := S2048x512) z2 inb_S2048x512_S2048x512_0_0 _).trans hr
      exact (rdw arg14.view _ z3 inb_S1x2048x128_S1x2048x128_0_0_0 _).trans
        (congr (congr (congr (congr (congr (congrArg k0_pay5 (congrArg k0_pay78 e0)) (congr (congrArg k0_pay79 e0) e2)) hu) hv) e11) e12)
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Scan
-- ==== Proof.KLaunch.lean ====
module

public import proofs.«01_k».proof.Proof.KRun
public import Idealize.ShloMosaic.Lib.Claim

@[expose] public section

set_option maxRecDepth 16384

noncomputable section

/-! # The launch

What every buffer holds around the body at every grid point, and the whole program's run: the pipelined region between the
operations before and after it. -/

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Staging memrefs and scratch -/

/-- Each window's staging memref at a grid point, and that it is a whole buffer. -/
abbrev ms0_0 (t : Fin cfg0.N) : Memref sig .tc .vmem S1x2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x8 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x512 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2048x128 .f32 := win0_13.stage (cfg0.slots t 13)
abbrev hs0_13 (t : Fin cfg0.N) : (ms0_13 t).IsWhole := hstage0_13 ((cfg0.slots t 13).cast nbuf0_13)

/-- The kernel's four scratch buffers as memrefs. -/
abbrev scr0 : Memref sig .tc .vmem S2048x512 .f32 := Memref.whole cc0_scratch0
/-- The buffer of the step size times the signal. -/
abbrev scr1 : Memref sig .tc .vmem S2048x512 .f32 := Memref.whole cc0_scratch1
/-- The buffer of the two projections. -/
abbrev scr2 : Memref sig .tc .vmem S2048x128 .f32 := Memref.whole cc0_scratch2
/-- The buffer of the read-outs. -/
abbrev scr3 : Memref sig .tc .vmem S2048x512 .f32 := Memref.whole cc0_scratch3

/-- The invariant between grid points: the scratch buffers at some contents, and the generator's register. -/
theorem inv_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-! ## The proof data -/

/-- The output block the body leaves at grid point `t`: `outVal` of the input blocks there. -/
def outBlk (c : Dev nD) (t : Fin cfg0.N) : FVec F S1x2048x128 .f32 :=
  outVal (iblk m c 0 t) (iblk m c 1 t) (iblk m c 2 t) (iblk m c 3 t) (iblk m c 4 t) (iblk m c 5 t) (iblk m c 6 t) (iblk m c 7 t) (iblk m c 8 t) (iblk m c 9 t) (iblk m c 11 t) (iblk m c 12 t)

/-- The pipeline's proof data: the arrays as the region finds them; after the body each input at its block and the output
    at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outBlk m c t
  Φ _ := Pipeline.ΦA spec0 c
  q _ := fullShare
  owed _ := 0

/-- The arrays of the proof data are the ones the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
/-- Window 1 is left at its block. -/
theorem after0_1 (c : Dev nD) (t : Fin cfg0.N) : (dats m 0 c).after 1 t = iblk m c 1 t := by dsimp only [dats]
/-- Window 2 is left at its block. -/
theorem after0_2 (c : Dev nD) (t : Fin cfg0.N) : (dats m 0 c).after 2 t = iblk m c 2 t := by dsimp only [dats]
/-- Window 3 is left at its block. -/
theorem after0_3 (c : Dev nD) (t : Fin cfg0.N) : (dats m 0 c).after 3 t = iblk m c 3 t := by dsimp only [dats]
/-- Window 4 is left at its block. -/
theorem after0_4 (c : Dev nD) (t : Fin cfg0.N) : (dats m 0 c).after 4 t = iblk m c 4 t := by dsimp only [dats]
/-- Window 5 is left at its block. -/
theorem after0_5 (c : Dev nD) (t : Fin cfg0.N) : (dats m 0 c).after 5 t = iblk m c 5 t := by dsimp only [dats]
/-- Window 6 is left at its block. -/
theorem after0_6 (c : Dev nD) (t : Fin cfg0.N) : (dats m 0 c).after 6 t = iblk m c 6 t := by dsimp only [dats]
/-- Window 7 is left at its block. -/
theorem after0_7 (c : Dev nD) (t : Fin cfg0.N) : (dats m 0 c).after 7 t = iblk m c 7 t := by dsimp only [dats]
/-- Window 8 is left at its block. -/
theorem after0_8 (c : Dev nD) (t : Fin cfg0.N) : (dats m 0 c).after 8 t = iblk m c 8 t := by dsimp only [dats]
/-- Window 9 is left at its block. -/
theorem after0_9 (c : Dev nD) (t : Fin cfg0.N) : (dats m 0 c).after 9 t = iblk m c 9 t := by dsimp only [dats]
/-- Window 10 is left at its block. -/
theorem after0_10 (c : Dev nD) (t : Fin cfg0.N) : (dats m 0 c).after 10 t = iblk m c 10 t := by dsimp only [dats]
/-- Window 11 is left at its block. -/
theorem after0_11 (c : Dev nD) (t : Fin cfg0.N) : (dats m 0 c).after 11 t = iblk m c 11 t := by dsimp only [dats]
/-- Window 12 is left at its block. -/
theorem after0_12 (c : Dev nD) (t : Fin cfg0.N) : (dats m 0 c).after 12 t = iblk m c 12 t := by dsimp only [dats]
/-- The output window is left at the body's value. -/
theorem after0_13 (c : Dev nD) (t : Fin cfg0.N) : (dats m 0 c).after 13 t = outBlk m c t := by dsimp only [dats]

/-- What the body finds in each input's buffer: its block. -/
theorem before0_0 (c : Dev nD) (t : Fin cfg0.N) (d) : (dats m 0 c).before 0 t d = iblk m c 0 t := before0_0_of m (dats m 0 c) (A_eq m c 0) (after0_0 m c) t d
/-- The body finds window 1 at its block. -/
theorem before0_1 (c : Dev nD) (t : Fin cfg0.N) (d) : (dats m 0 c).before 1 t d = iblk m c 1 t := before0_1_of m (dats m 0 c) (A_eq m c 1) (after0_1 m c) t d
/-- The body finds window 2 at its block. -/
theorem before0_2 (c : Dev nD) (t : Fin cfg0.N) (d) : (dats m 0 c).before 2 t d = iblk m c 2 t := before0_2_of m (dats m 0 c) (A_eq m c 2) (after0_2 m c) t d
/-- The body finds window 3 at its block. -/
theorem before0_3 (c : Dev nD) (t : Fin cfg0.N) (d) : (dats m 0 c).before 3 t d = iblk m c 3 t := before0_3_of m (dats m 0 c) (A_eq m c 3) (after0_3 m c) t d
/-- The body finds window 4 at its block. -/
theorem before0_4 (c : Dev nD) (t : Fin cfg0.N) (d) : (dats m 0 c).before 4 t d = iblk m c 4 t := before0_4_of m (dats m 0 c) (A_eq m c 4) (after0_4 m c) t d
/-- The body finds window 5 at its block. -/
theorem before0_5 (c : Dev nD) (t : Fin cfg0.N) (d) : (dats m 0 c).before 5 t d = iblk m c 5 t := before0_5_of m (dats m 0 c) (A_eq m c 5) (after0_5 m c) t d
/-- The body finds window 6 at its block. -/
theorem before0_6 (c : Dev nD) (t : Fin cfg0.N) (d) : (dats m 0 c).before 6 t d = iblk m c 6 t := before0_6_of m (dats m 0 c) (A_eq m c 6) (after0_6 m c) t d
/-- The body finds window 7 at its block. -/
theorem before0_7 (c : Dev nD) (t : Fin cfg0.N) (d) : (dats m 0 c).before 7 t d = iblk m c 7 t := before0_7_of m (dats m 0 c) (A_eq m c 7) (after0_7 m c) t d
/-- The body finds window 8 at its block. -/
theorem before0_8 (c : Dev nD) (t : Fin cfg0.N) (d) : (dats m 0 c).before 8 t d = iblk m c 8 t := before0_8_of m (dats m 0 c) (A_eq m c 8) (after0_8 m c) t d
/-- The body finds window 9 at its block. -/
theorem before0_9 (c : Dev nD) (t : Fin cfg0.N) (d) : (dats m 0 c).before 9 t d = iblk m c 9 t := before0_9_of m (dats m 0 c) (A_eq m c 9) (after0_9 m c) t d
/-- The body finds window 10 at its block. -/
theorem before0_10 (c : Dev nD) (t : Fin cfg0.N) (d) : (dats m 0 c).before 10 t d = iblk m c 10 t := before0_10_of m (dats m 0 c) (A_eq m c 10) (after0_10 m c) t d
/-- The body finds window 11 at its block. -/
theorem before0_11 (c : Dev nD) (t : Fin cfg0.N) (d) : (dats m 0 c).before 11 t d = iblk m c 11 t := before0_11_of m (dats m 0 c) (A_eq m c 11) (after0_11 m c) t d
/-- The body finds window 12 at its block. -/
theorem before0_12 (c : Dev nD) (t : Fin cfg0.N) (d) : (dats m 0 c).before 12 t d = iblk m c 12 t := before0_12_of m (dats m 0 c) (A_eq m c 12) (after0_12 m c) t d

/-! ## The body at every grid point -/

/-- What the body starts from at a grid point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What the body ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
/-- The body takes `bodyPre` to `bodyPost` at every grid point: its triple at the point's blocks. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, inv_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at a grid point's slots is the body there. -/
theorem row_eq (t : Fin cfg0.N) : defs₀ (F := F) .tc cfg0.body (cfg0.bodyArgs t (cfg0.slots t)) = bodyAt0 t := by
  unfold defs₀; rw [Defs.onTc_tc]

/-- The pipeline's obligation on the body holds. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

/-! ## The run -/

set_option backward.isDefEq.respectTransparency.types false in
set_option maxHeartbeats 800000 in
/-- The program ends, every buffer at the contents the proof data and the operations after the region say, every counter
    at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

end Cert.KernelIdeal.Scan

end
-- ==== Proof.KValue.lean ====
module

public import proofs.«01_k».proof.Proof.KLaunch
public import Idealize.ShloMosaic.Lib.Pipeline.Value
public import Idealize.ShloMosaic.Lib.StableHlo.Run

@[expose] public section

set_option maxRecDepth 16384

noncomputable section

/-! # What the kernel's program returns

Each window's block as a function of the arguments, the result array, and the run read at the result. -/

namespace Cert.KernelIdeal.Scan

open Idealize.ShloMosaic Idealize.ShloMosaic.TcCoe
open Idealize.SL.Sem
open Idealize.ShloMosaic.Pipeline (Dat Cfg Window)
open Idealize.ShloMosaic.ValueIdx
open Cert.KernelIdeal Cert.KernelIdeal.Gen

variable {F : FTy → Type} [FloatOps F]

variable (m : (ℓ : Loc nD τ sig) → Buf (Elt F) ℓ) (ρ : Dev nD → PrngReg)

/-! ## The blocks -/

/-- Reading an array through indices equal to the given ones reads the array. -/
theorem read_same {S : Shape} {β : Type} (f : S.Idx → β) (e : S.Idx → S.Idx) (h : ∀ j a, (e j a).val = (j a).val) : (fun j => f (e j)) = f :=
  funext fun j => congrArg f (funext fun a => Fin.ext (h j a))

/-- An index of a whole-array block is the array's: offset zero, stride one. -/
theorem off0 {n : ℕ} (x : Fin n) (k : ℕ) : 0 * k + 1 * x.val = x.val := by omega

/-- Window 1 is a whole array at every grid point: the convolved half of the input projection, transposed. -/
theorem iblk1_eq (c : Dev nD) (t : Fin cfg0.N) : iblk m c 1 t = V m c main_v3 :=
  read_same (S := S128x512) (V m c main_v3) (fun j => ((cfg0.win 1).blk t).view.emb j) fun j a => match a with
    | ⟨0, _⟩ => off0 (j 0) 128
    | ⟨1, _⟩ => off0 (j 1) 512

/-- Window 2 is a whole array at every grid point: the gating half of the input projection, transposed. -/
theorem iblk2_eq (c : Dev nD) (t : Fin cfg0.N) : iblk m c 2 t = V m c main_v5 :=
  read_same (S := S128x512) (V m c main_v5) (fun j => ((cfg0.win 2).blk t).view.emb j) fun j a => match a with
    | ⟨0, _⟩ => off0 (j 0) 128
    | ⟨1, _⟩ => off0 (j 1) 512

/-- Window 3 is a whole array at every grid point: the taps, transposed. -/
theorem iblk3_eq (c : Dev nD) (t : Fin cfg0.N) : iblk m c 3 t = V m c main_v7 :=
  read_same (S := S4x512) (V m c main_v7) (fun j => ((cfg0.win 3).blk t).view.emb j) fun j a => match a with
    | ⟨0, _⟩ => off0 (j 0) 4
    | ⟨1, _⟩ => off0 (j 1) 512

/-- Window 4 is a whole array at every grid point: the convolution's bias as a row. -/
theorem iblk4_eq (c : Dev nD) (t : Fin cfg0.N) : iblk m c 4 t = V m c main_v17 :=
  read_same (S := S1x512) (V m c main_v17) (fun j => ((cfg0.win 4).blk t).view.emb j) fun j a => match a with
    | ⟨0, _⟩ => off0 (j 0) 1
    | ⟨1, _⟩ => off0 (j 1) 512

/-- Window 5 is a whole array at every grid point: the projection onto the state, transposed. -/
theorem iblk5_eq (c : Dev nD) (t : Fin cfg0.N) : iblk m c 5 t = V m c main_v9 :=
  read_same (S := S512x64) (V m c main_v9) (fun j => ((cfg0.win 5).blk t).view.emb j) fun j a => match a with
    | ⟨0, _⟩ => off0 (j 0) 512
    | ⟨1, _⟩ => off0 (j 1) 64

/-- Window 6 is a whole array at every grid point: the read-out projection, transposed. -/
theorem iblk6_eq (c : Dev nD) (t : Fin cfg0.N) : iblk m c 6 t = V m c main_v11 :=
  read_same (S := S512x64) (V m c main_v11) (fun j => ((cfg0.win 6).blk t).view.emb j) fun j a => match a with
    | ⟨0, _⟩ => off0 (j 0) 512
    | ⟨1, _⟩ => off0 (j 1) 64

/-- Window 7 is a whole array at every grid point: the step size's first projection, transposed. -/
theorem iblk7_eq (c : Dev nD) (t : Fin cfg0.N) : iblk m c 7 t = V m c main_v13 :=
  read_same (S := S512x8) (V m c main_v13) (fun j => ((cfg0.win 7).blk t).view.emb j) fun j a => match a with
    | ⟨0, _⟩ => off0 (j 0) 512
    | ⟨1, _⟩ => off0 (j 1) 8

/-- Window 8 is a whole array at every grid point: the step size's second projection, transposed. -/
theorem iblk8_eq (c : Dev nD) (t : Fin cfg0.N) : iblk m c 8 t = V m c main_v14 :=
  read_same (S := S8x512) (V m c main_v14) (fun j => ((cfg0.win 8).blk t).view.emb j) fun j a => match a with
    | ⟨0, _⟩ => off0 (j 0) 8
    | ⟨1, _⟩ => off0 (j 1) 512

/-- Window 9 is a whole array at every grid point: the step size's bias as a row. -/
theorem iblk9_eq (c : Dev nD) (t : Fin cfg0.N) : iblk m c 9 t = V m c main_v18 :=
  read_same (S := S1x512) (V m c main_v18) (fun j => ((cfg0.win 9).blk t).view.emb j) fun j a => match a with
    | ⟨0, _⟩ => off0 (j 0) 1
    | ⟨1, _⟩ => off0 (j 1) 512

/-- Window 11 is a whole array at every grid point: the skip weights as a row. -/
theorem iblk11_eq (c : Dev nD) (t : Fin cfg0.N) : iblk m c 11 t = V m c main_v19 :=
  read_same (S := S1x512) (V m c main_v19) (fun j => ((cfg0.win 11).blk t).view.emb j) fun j a => match a with
    | ⟨0, _⟩ => off0 (j 0) 1
    | ⟨1, _⟩ => off0 (j 1) 512

/-- Window 12 is a whole array at every grid point: the output projection, transposed. -/
theorem iblk12_eq (c : Dev nD) (t : Fin cfg0.N) : iblk m c 12 t = V m c main_v16 :=
  read_same (S := S512x128) (V m c main_v16) (fun j => ((cfg0.win 12).blk t).view.emb j) fun j a => match a with
    | ⟨0, _⟩ => off0 (j 0) 512
    | ⟨1, _⟩ => off0 (j 1) 128

/-- The grid point's own number is its block's index along the batch. -/
theorem coord_val (t : Fin cfg0.N) : (cc0_transform_0 (grid0.coords t) 0) = t.val := by
  revert t; decide +kernel

/-- Window 0 is the grid point's batch of the signal. -/
theorem iblk0_eq (c : Dev nD) (t : Fin cfg0.N) :
    iblk m c 0 t = fun j : S1x2048x128.Idx => V m c main_v1 (ix3 ⟨t.val, t.isLt⟩ (j 1) (j 2)) := by
  funext j
  refine congrArg (V m c main_v1) (funext fun a => Fin.ext ?_)
  match a with
  | ⟨0, _⟩ =>
    show cc0_transform_0 (grid0.coords t) 0 * 1 + 1 * (j 0).val = t.val
    have := (j 0).isLt
    have : (j 0).val < 1 := this
    rw [coord_val]; omega
  | ⟨1, _⟩ => exact off0 (j 1) 2048
  | ⟨2, _⟩ => exact off0 (j 2) 128

/-! ## The arrays the region finds -/

/-- The launch contents of an argument on device `c`. -/
abbrev arg (c : Dev nD) (b : Ref sig .tc) : Buf (Elt F) ((c : Thread nD τ).loc b) := m ((c : Thread nD τ).loc b)

/-- The region finds the signal, by batch, time and channel. -/
theorem V1_eq (c : Dev nD) : V m c main_v1 = transpose S4x2048x128 [0, 2, 1] (shapeCast S4x128x2048 (arg m c main_arg0) shapeCasts_S4x128x1x2048_S4x128x2048) transposes_S4x128x2048_S4x2048x128_0_2_1 := by
  unfold_abbrev_sides; after_results; rfl

/-- The region finds the convolved half of the input projection, transposed. -/
theorem V3_eq (c : Dev nD) : V m c main_v3 = transpose S128x512 [1, 0] (extractStridedSlice S512x128 ![0, 0] (arg m c main_arg1) slices_S1024x128_S512x128_0_0) transposes_S512x128_S128x512_1_0 := by
  unfold_abbrev_sides; after_results; rfl

/-- The region finds the gating half of the input projection, transposed. -/
theorem V5_eq (c : Dev nD) : V m c main_v5 = transpose S128x512 [1, 0] (extractStridedSlice S512x128 ![512, 0] (arg m c main_arg1) slices_S1024x128_S512x128_512_0) transposes_S512x128_S128x512_1_0 := by
  unfold_abbrev_sides; after_results; rfl

/-- The region finds the taps, transposed. -/
theorem V7_eq (c : Dev nD) : V m c main_v7 = transpose S4x512 [1, 0] (shapeCast S512x4 (arg m c main_arg2) shapeCasts_S512x1x4_S512x4) transposes_S512x4_S4x512_1_0 := by
  unfold_abbrev_sides; after_results; rfl

/-- The region finds the projection onto the state, transposed. -/
theorem V9_eq (c : Dev nD) : V m c main_v9 = transpose S512x64 [1, 0] (extractStridedSlice S64x512 ![8, 0] (arg m c main_arg4) slices_S136x512_S64x512_8_0) transposes_S64x512_S512x64_1_0 := by
  unfold_abbrev_sides; after_results; rfl

/-- The region finds the read-out projection, transposed. -/
theorem V11_eq (c : Dev nD) : V m c main_v11 = transpose S512x64 [1, 0] (extractStridedSlice S64x512 ![72, 0] (arg m c main_arg4) slices_S136x512_S64x512_72_0) transposes_S64x512_S512x64_1_0 := by
  unfold_abbrev_sides; after_results; rfl

/-- The region finds the step size's first projection, transposed. -/
theorem V13_eq (c : Dev nD) : V m c main_v13 = transpose S512x8 [1, 0] (extractStridedSlice S8x512 ![0, 0] (arg m c main_arg4) slices_S136x512_S8x512_0_0) transposes_S8x512_S512x8_1_0 := by
  unfold_abbrev_sides; after_results; rfl

/-- The region finds the step size's second projection, transposed. -/
theorem V14_eq (c : Dev nD) : V m c main_v14 = transpose S8x512 [1, 0] (arg m c main_arg5) transposes_S512x8_S8x512_1_0 := by
  unfold_abbrev_sides; simp only [hostOps0, List.flatten_cons, List.flatten_nil, List.append_nil]; after_results

/-- The region finds the output projection, transposed. -/
theorem V16_eq (c : Dev nD) : V m c main_v16 = transpose S512x128 [1, 0] (arg m c main_arg9) transposes_S128x512_S512x128_1_0 := by
  unfold_abbrev_sides; simp only [hostOps0, List.flatten_cons, List.flatten_nil, List.append_nil]; after_results

/-- The region finds the convolution's bias as a row. -/
theorem V17_eq (c : Dev nD) : V m c main_v17 = broadcastInDim S1x512 ![1] bcast_S512_S1x512_1 (arg m c main_arg3) := by
  unfold_abbrev_sides; after_results; rfl

/-- The region finds the step size's bias as a row. -/
theorem V18_eq (c : Dev nD) : V m c main_v18 = broadcastInDim S1x512 ![1] bcast_S512_S1x512_1 (arg m c main_arg6) := by
  unfold_abbrev_sides; after_results; rfl

/-- The region finds the skip weights as a row. -/
theorem V19_eq (c : Dev nD) : V m c main_v19 = broadcastInDim S1x512 ![1] bcast_S512_S1x512_1 (arg m c main_arg8) := by
  unfold_abbrev_sides; after_results; rfl

/-! ## The result -/

/-- The result array of the region: each batch entry's output block. -/
def outArr (c : Dev nD) : FVec F S4x2048x128 .f32 := fun i => outBlk m c ⟨(i 0).val, (i 0).isLt⟩ (ix3 0 (i 1) (i 2))

/-- A cell of the output block lies in the array at the grid point's batch entry. -/
theorem emb13 (t : Fin cfg0.N) (j : S1x2048x128.Idx) : ((cfg0.win 13).blk t).view.emb j = (ix3 ⟨t.val, t.isLt⟩ (j 1) (j 2) : S4x2048x128.Idx) := by
  refine funext fun a => Fin.ext ?_
  match a with
  | ⟨0, _⟩ =>
    show cc0_transform_0 (grid0.coords t) 0 * 1 + 1 * (j 0).val = t.val
    have : (j 0).val < 1 := (j 0).isLt
    rw [coord_val]; omega
  | ⟨1, _⟩ => exact off0 (j 1) 2048
  | ⟨2, _⟩ => exact off0 (j 2) 128

/-- What a grid point writes back is its block of the result array. -/
theorem flushed_eq (c : Dev nD) (t : Fin cfg0.N) : (dats m 0 c).flushed 13 t = ((cfg0.win 13).blk t).view.read (Elt F) (outArr m c) := by
  show (cfg0.win 13).cut (grid0.coords t) ((dats m 0 c).after 13 t) = _
  rw [after0_13]
  funext j
  show outBlk m c t j = outArr m c (((cfg0.win 13).blk t).view.emb j)
  rw [emb13]
  refine congrArg (outBlk m c t) (funext fun a => Fin.ext ?_)
  match a with
  | ⟨0, _⟩ =>
    have : (j 0).val < 1 := (j 0).isLt
    show (j 0).val = 0
    omega
  | ⟨1, _⟩ => rfl
  | ⟨2, _⟩ => rfl

/-- Every cell of the result array is written back by its batch entry's grid point. -/
theorem covered (i : S4x2048x128.Idx) : ∃ t : Fin cfg0.N, (cfg0.win 13).flush t = true ∧ i ∈ ((cfg0.win 13).blk t).view.set := by
  refine ⟨⟨(i 0).val, (i 0).isLt⟩, flush0_13 _, ?_⟩
  have h := ((cfg0.win 13).blk ⟨(i 0).val, (i 0).isLt⟩).view.emb_mem_set (ix3 0 (i 1) (i 2) : S1x2048x128.Idx)
  rw [emb13] at h
  have e : (ix3 ⟨(i 0).val, (i 0).isLt⟩ (i 1) (i 2) : S4x2048x128.Idx) = i := funext fun a => match a with
    | ⟨0, _⟩ => rfl
    | ⟨1, _⟩ => rfl
    | ⟨2, _⟩ => rfl
  rw [← e]; exact h

/-- The region leaves the result array at `outArr`. -/
theorem final (c : Dev nD) : (dats m 0 c).arrAt 13 cfg0.N = outArr m c :=
  (dats m 0 c).arrAt_eq_of_cover 13 (outArr m c) (fun t _ => flushed_eq m c t) covered

/-- What the program returns: the result array with time last. -/
def result (c : Dev nD) : FVec F S4x128x1x2048 .f32 :=
  broadcastInDim S4x128x1x2048 ![0, 1, 3] bcast_S4x128x2048_S4x128x1x2048_0_1_3 (transpose S4x128x2048 [0, 2, 1] (outArr m c) transposes_S4x2048x128_S4x128x2048_0_2_1)

/-- The operations after the region put `result` in the returned buffer. -/
theorem tail_eq (c : Dev nD) : Pipeline.afterTail₀ cfgs (dats m) 0 (V0 m) [hostOps1] c main_v22 = result m c := by
  have e : Pipeline.withArrays spec0 c (V0 m c) (fun w => (dats m 0 c).arrAt w cfg0.N) (Proc.devRef .tc main_v20) = outArr m c :=
    (Pipeline.withArrays_arr spec0 launch0.win.arr_inj c (V0 m c) (fun w => (dats m 0 c).arrAt w cfg0.N) 13).trans (final m c)
  unfold Pipeline.afterTail₀ result
  rw [← e]
  simp only [List.flatten_cons, List.flatten_nil, List.append_nil]
  after_results

/-- The arguments in `mem` are as launched. -/
def Kept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)

/-- The whole run: the returned buffer at `result`, the arguments as launched, every counter at zero. -/
theorem run_value : θ_run defs (onTc (τ := τ) (main (F := F))) ⟨m, fun _ => 0, ρ⟩
    (fun r => (∀ c : Dev nD, r.2.mem ((c.tc : Thread nD τ).loc main_v22) = result m c ∧ Kept m r.2.mem c) ∧ r.2.sem = fun _ => 0) :=
  (θ_run defs _ _).mono (fun r h => ⟨fun c => ⟨((h.1 c).2 main_v22 (Pipeline.mem_restRefs_of main_v22 (by decide) (by decide))).trans (tail_eq m c),
    ((h.1 c).2 main_arg0 (Pipeline.mem_restRefs_of main_arg0 (by decide) (by decide))).trans (W_main_arg0 m (dats m) c),
    ((h.1 c).2 main_arg1 (Pipeline.mem_restRefs_of main_arg1 (by decide) (by decide))).trans (W_main_arg1 m (dats m) c),
    ((h.1 c).2 main_arg2 (Pipeline.mem_restRefs_of main_arg2 (by decide) (by decide))).trans (W_main_arg2 m (dats m) c),
    ((h.1 c).2 main_arg3 (Pipeline.mem_restRefs_of main_arg3 (by decide) (by decide))).trans (W_main_arg3 m (dats m) c),
    ((h.1 c).2 main_arg4 (Pipeline.mem_restRefs_of main_arg4 (by decide) (by decide))).trans (W_main_arg4 m (dats m) c),
    ((h.1 c).2 main_arg5 (Pipeline.mem_restRefs_of main_arg5 (by decide) (by decide))).trans (W_main_arg5 m (dats m) c),
    ((h.1 c).2 main_arg6 (Pipeline.mem_restRefs_of main_arg6 (by decide) (by decide))).trans (W_main_arg6 m (dats m) c),
    ((h.1 c).2 main_arg7 (Pipeline.mem_restRefs_of main_arg7 (by decide) (by decide))).trans (W_main_arg7 m (dats m) c),
    ((h.1 c).2 main_arg8 (Pipeline.mem_restRefs_of main_arg8 (by decide) (by decide))).trans (W_main_arg8 m (dats m) c),
    ((h.1 c).2 main_arg9 (Pipeline.mem_restRefs_of main_arg9 (by decide) (by decide))).trans (W_main_arg9 m (dats m) c)⟩, h.2⟩) (run_all m ρ)

end Cert.KernelIdeal.Scan

end
-- ==== Proof.Spec.lean ====
module

public import Idealize.ShloMosaic.PureOps.Ideal.Laws

@[expose] public section

/-! # One batch of the block as plain mathematics

The block for one batch, over the extended reals and with every array a function of its coordinates: the input projection,
the causal convolution of four taps with its `silu`, the three projections of the convolved signal, the step size by
`softplus`, the recurrence over time, its read-out, the gate and the output projection. Both programs are shown to compute
`out` of it. -/

namespace Cert.Mamba

open Idealize.ShloMosaic
open scoped BigOperators

/-- The arguments as one batch of the block reads them. -/
structure Inp where
  /-- the batch's signal, by time and channel -/
  x : Fin 2048 → Fin 128 → EReal
  /-- the input projection -/
  win : Fin 1024 → Fin 128 → EReal
  /-- the convolution's taps -/
  cw : Fin 512 → Fin 4 → EReal
  /-- the convolution's bias -/
  cb : Fin 512 → EReal
  /-- the projection to step size, `B` and `C` -/
  wx : Fin 136 → Fin 512 → EReal
  /-- the step size's projection -/
  wdt : Fin 512 → Fin 8 → EReal
  /-- the step size's bias -/
  bdt : Fin 512 → EReal
  /-- the logarithm of the negated decay rates -/
  al : Fin 512 → Fin 64 → EReal
  /-- the skip weights -/
  dd : Fin 512 → EReal
  /-- the output projection -/
  wo : Fin 128 → Fin 512 → EReal

/-- `x` times its logistic. -/
noncomputable def silu (x : EReal) : EReal := x * Ideal.logistic x

/-- The softplus, in the form that does not overflow. -/
noncomputable def softplus (v : EReal) : EReal := max v 0 + Ideal.log1p (Ideal.exp (-(max v (-v))))

/-- A signal `s` steps late, zero before its start. -/
noncomputable def late (f : Fin 2048 → Fin 512 → EReal) (s : ℕ) (t : Fin 2048) (d : Fin 512) : EReal :=
  if _h : s ≤ t.val then f ⟨t.val - s, by omega⟩ d else 0

variable (p : Inp)

/-- The half of the input projection that the convolution reads. -/
noncomputable def xi (t : Fin 2048) (d : Fin 512) : EReal := ∑ c : Fin 128, p.x t c * p.win ⟨d.val, by omega⟩ c

/-- The half of the input projection that gates. -/
noncomputable def z (t : Fin 2048) (d : Fin 512) : EReal := ∑ c : Fin 128, p.x t c * p.win ⟨512 + d.val, by omega⟩ c

/-- The convolution and its bias. -/
noncomputable def conv (t : Fin 2048) (d : Fin 512) : EReal :=
  (((xi p t d * p.cw d 3 + late (xi p) 1 t d * p.cw d 2) + late (xi p) 2 t d * p.cw d 1) + late (xi p) 3 t d * p.cw d 0) + p.cb d

/-- The convolved signal. -/
noncomputable def u (t : Fin 2048) (d : Fin 512) : EReal := silu (conv p t d)

/-- The projection of the convolved signal. -/
noncomputable def proj (t : Fin 2048) (j : Fin 136) : EReal := ∑ d : Fin 512, u p t d * p.wx j d

/-- The step size. -/
noncomputable def dt (t : Fin 2048) (d : Fin 512) : EReal :=
  softplus ((∑ r : Fin 8, proj p t ⟨r.val, by omega⟩ * p.wdt d r) + p.bdt d)

/-- The decay of state `n` in lane `d` over one step. -/
noncomputable def decay (t : Fin 2048) (n : Fin 64) (d : Fin 512) : EReal := Ideal.exp (dt p t d * -(Ideal.exp (p.al d n)))

/-- The state before step `t`. -/
noncomputable def h : ℕ → Fin 64 → Fin 512 → EReal
  | 0 => fun _ _ => 0
  | t + 1 => fun n d =>
      if ht : t < 2048 then decay p ⟨t, ht⟩ n d * h t n d + proj p ⟨t, ht⟩ ⟨8 + n.val, by omega⟩ * (dt p ⟨t, ht⟩ d * u p ⟨t, ht⟩ d)
      else h t n d

/-- The state after step `t`. -/
theorem h_succ (t : ℕ) (ht : t < 2048) (n : Fin 64) (d : Fin 512) :
    h p (t + 1) n d = decay p ⟨t, ht⟩ n d * h p t n d + proj p ⟨t, ht⟩ ⟨8 + n.val, by omega⟩ * (dt p ⟨t, ht⟩ d * u p ⟨t, ht⟩ d) := by
  rw [h]
  exact dif_pos ht

/-- The read-out of step `t`. -/
noncomputable def y (t : Fin 2048) (d : Fin 512) : EReal := ∑ n : Fin 64, h p (t.val + 1) n d * proj p t ⟨72 + n.val, by omega⟩

/-- The gated read-out. -/
noncomputable def gated (t : Fin 2048) (d : Fin 512) : EReal := (y p t d + u p t d * p.dd d) * silu (z p t d)

/-- The block's output. -/
noncomputable def out (t : Fin 2048) (c : Fin 128) : EReal := p.x t c + ∑ d : Fin 512, gated p t d * p.wo c d

/-! ## The decay as a power -/

/-- The decay rates' logarithms are the logarithms of `1 … 64` in every lane. -/
def LogN (p : Inp) : Prop := ∀ d n, p.al d n = Ideal.log (((n.val + 1 : ℕ) : ℝ) : EReal)

/-- The exponential of the logarithm of a positive count is the count. -/
theorem exp_log_succ (n : ℕ) : Ideal.exp (Ideal.log (((n + 1 : ℕ) : ℝ) : EReal)) = (((n + 1 : ℕ) : ℝ) : EReal) := by
  have hp : (0 : ℝ) < ((n + 1 : ℕ) : ℝ) := by positivity
  show Ideal.exp (if ((n + 1 : ℕ) : ℝ) ≤ 0 then ⊥ else (Real.log ((n + 1 : ℕ) : ℝ) : EReal)) = _
  rw [if_neg (not_le.2 hp)]
  show ((Real.exp (Real.log ((n + 1 : ℕ) : ℝ)) : ℝ) : EReal) = _
  rw [Real.exp_log hp]

/-- The decay by a rate `n + 1` is the `n + 1`-st power of the decay by rate one. -/
theorem exp_pow (v : EReal) (n : ℕ) : Ideal.exp (v * -(((n + 1 : ℕ) : ℝ) : EReal)) = Ideal.exp (0 - v) ^ (n + 1) := by
  have hp : (0 : ℝ) < ((n + 1 : ℕ) : ℝ) := by positivity
  have hn : -(((n + 1 : ℕ) : ℝ) : EReal) = ((-((n + 1 : ℕ) : ℝ) : ℝ) : EReal) := rfl
  rw [zero_sub, hn]
  induction v using EReal.rec with
  | bot =>
    rw [EReal.bot_mul_coe_of_neg (by linarith), EReal.neg_bot]
    show (⊤ : EReal) = ⊤ ^ (n + 1)
    clear hp hn
    induction n with
    | zero => simp
    | succ n ih => rw [pow_succ, ← ih, EReal.top_mul_top]
  | top =>
    rw [EReal.top_mul_coe_of_neg (by linarith), EReal.neg_top]
    show (0 : EReal) = 0 ^ (n + 1)
    rw [zero_pow (Nat.succ_ne_zero n)]
  | coe r =>
    rw [← EReal.coe_mul, ← EReal.coe_neg]
    show ((Real.exp (r * -((n + 1 : ℕ) : ℝ)) : ℝ) : EReal) = ((Real.exp (-r) : ℝ) : EReal) ^ (n + 1)
    rw [← EReal.coe_pow, ← Real.exp_nat_mul]
    congr 2
    ring

/-- Under `LogN` a state's decay is a power of the lane's first decay. -/
theorem decay_eq (hp : LogN p) (t : Fin 2048) (n : Fin 64) (d : Fin 512) :
    decay p t n d = Ideal.exp (0 - dt p t d) ^ (n.val + 1) := by
  unfold decay
  rw [hp d n, exp_log_succ, exp_pow]

end Cert.Mamba
-- ==== Proof.KMath.lean ====
module

public import proofs.«01_k».proof.Proof.KRun
public import proofs.«01_k».proof.Proof.Spec
public import Idealize.ShloMosaic.Lib.MatmulPlain
public import Idealize.ShloMosaic.Lib.ValueLayout
public import Idealize.ShloMosaic.Lib.IdealHost

@[expose] public section

/-! # The kernel's values at an index

Every value the kernel computes for one batch, read at an index over the extended reals, is the plain mathematics of
`Cert.Mamba` at that index. -/

namespace Cert.KernelIdeal.Scan

open Idealize.ShloMosaic Idealize.ShloMosaic.TcCoe Idealize.ShloMosaic.ValueIdx Idealize.ShloMosaic.Pipeline
open Cert.KernelIdeal Cert.KernelIdeal.Gen
open scoped BigOperators

/-- A product of two matrices into zero, read at an index. -/
theorem mm {M K N : ℕ} (dd : DotDims ⟨2, ![M, K]⟩ ⟨2, ![K, N]⟩ ⟨2, ![M, N]⟩) (hd : dd = DotDims.plain M K N)
    (l : FVec Ideal ⟨2, ![M, K]⟩ .f32) (r : FVec Ideal ⟨2, ![K, N]⟩ .f32) (t : Fin M) (c : Fin N) :
    matmul dd none l r (constant ⟨2, ![M, N]⟩ .f32 0x00000000#32) (ix2 t c) = ∑ k : Fin K, l (ix2 t k) * r (ix2 k c) := by
  subst hd
  refine (Ideal.matmul_plain_apply none l r _ t c).trans ?_
  show Ideal.ofBits .f32 0x00000000#32 + _ = _
  rw [Ideal.ofBits_zero_f32, zero_add]

/-- A row on every row, read at an index. -/
theorem bc_row {N M : ℕ} (v : (⟨2, ![1, M]⟩ : Shape).Idx → EReal) (h : (⟨2, ![1, M]⟩ : Shape).Broadcasts ⟨2, ![N, M]⟩) (n : Fin N) (d : Fin M) :
    broadcastTo ⟨2, ![N, M]⟩ v h (ix2 n d) = v (ix2 0 d) := broadcastTo_1b_ab_apply v h n d

/-- Eight blocks of rows one under another, read at an index. -/
theorem cat8 {α : Type} {N M K : ℕ} (f : Fin 8 → (⟨2, ![K, M]⟩ : Shape).Idx → α)
    (h : Shape.Concatenates ((List.ofFn fun n : Fin 8 => (⟨⟨2, ![K, M]⟩, f n⟩ : (s : Shape) × (s.Idx → α))).map (·.1)) ⟨2, ![N, M]⟩ 0)
    (n : Fin N) (d : Fin M) (q : Fin 8) (r : Fin K) (hq : n.val / K = q.val) (hr : r.val = n.val % K) :
    concatenate ⟨2, ![N, M]⟩ 0 (List.ofFn fun n : Fin 8 => (⟨⟨2, ![K, M]⟩, f n⟩ : (s : Shape) × (s.Idx → α))) h (ix2 n d) = f q (ix2 r d) := by
  refine concatenate_ofFn_apply 0 f h rfl K rfl (ix2 n d) q hq (ix2 r d) hr fun b hb => ?_
  match b, hb with
  | ⟨0, _⟩, hb => exact absurd (Fin.ext rfl) hb
  | ⟨1, _⟩, _ => rfl

/-- Row `k` of the first eight powers. -/
theorem powBlk_apply (r : FVec Ideal S1x512 .f32) (k : Fin 8) (d : Fin 512) : powBlk r (ix2 k d) = r (ix2 0 d) ^ (k.val + 1) := by
  have e := cat8 (N := 8) (K := 1) (M := 512) (α := EReal) ![r, mulf r r, mulf (mulf r r) r, mulf (mulf (mulf r r) r) r, mulf (mulf (mulf (mulf r r) r) r) r,
    mulf (mulf (mulf (mulf (mulf r r) r) r) r) r, mulf (mulf (mulf (mulf (mulf (mulf r r) r) r) r) r) r,
    mulf (mulf (mulf (mulf (mulf (mulf (mulf r r) r) r) r) r) r) r] concatenates_S1x512_S1x512_S1x512_S1x512_S1x512_S1x512_S1x512_S1x512_S8x512_d0
    k d k 0 (Nat.div_one _) (Nat.mod_one _).symm
  refine e.trans ?_
  fin_cases k <;> simp [mulf_apply, pow_succ]

/-- The eighth power, on every row. -/
theorem pow8_apply (r : FVec Ideal S1x512 .f32) (k : Fin 8) (d : Fin 512) : pow8 r (ix2 k d) = r (ix2 0 d) ^ 8 := by
  refine (bc_row _ broadcasts_S1x512_S8x512 k d).trans ?_
  simp [mulf_apply, pow_succ]

/-- Row `n` of the sixty-four powers. -/
theorem decay_apply (r : FVec Ideal S1x512 .f32) (n : Fin 64) (d : Fin 512) : decay r (ix2 n d) = r (ix2 0 d) ^ (n.val + 1) := by
  have hq : n.val / 8 < 8 := by omega
  have hm : n.val % 8 < 8 := Nat.mod_lt _ (by omega)
  have e := cat8 (N := 64) (K := 8) (M := 512) (α := EReal) ![powBlk r, mulf (powBlk r) (pow8 r), mulf (mulf (powBlk r) (pow8 r)) (pow8 r),
    mulf (mulf (mulf (powBlk r) (pow8 r)) (pow8 r)) (pow8 r), mulf (mulf (mulf (mulf (powBlk r) (pow8 r)) (pow8 r)) (pow8 r)) (pow8 r),
    mulf (mulf (mulf (mulf (mulf (powBlk r) (pow8 r)) (pow8 r)) (pow8 r)) (pow8 r)) (pow8 r),
    mulf (mulf (mulf (mulf (mulf (mulf (powBlk r) (pow8 r)) (pow8 r)) (pow8 r)) (pow8 r)) (pow8 r)) (pow8 r),
    mulf (mulf (mulf (mulf (mulf (mulf (mulf (powBlk r) (pow8 r)) (pow8 r)) (pow8 r)) (pow8 r)) (pow8 r)) (pow8 r)) (pow8 r)]
    concatenates_S8x512_S8x512_S8x512_S8x512_S8x512_S8x512_S8x512_S8x512_S64x512_d0
    n d ⟨n.val / 8, hq⟩ ⟨n.val % 8, hm⟩ rfl rfl
  refine e.trans ?_
  have key : ∀ q : Fin 8, (![powBlk r, mulf (powBlk r) (pow8 r), mulf (mulf (powBlk r) (pow8 r)) (pow8 r),
    mulf (mulf (mulf (powBlk r) (pow8 r)) (pow8 r)) (pow8 r), mulf (mulf (mulf (mulf (powBlk r) (pow8 r)) (pow8 r)) (pow8 r)) (pow8 r),
    mulf (mulf (mulf (mulf (mulf (powBlk r) (pow8 r)) (pow8 r)) (pow8 r)) (pow8 r)) (pow8 r),
    mulf (mulf (mulf (mulf (mulf (mulf (powBlk r) (pow8 r)) (pow8 r)) (pow8 r)) (pow8 r)) (pow8 r)) (pow8 r),
    mulf (mulf (mulf (mulf (mulf (mulf (mulf (powBlk r) (pow8 r)) (pow8 r)) (pow8 r)) (pow8 r)) (pow8 r)) (pow8 r)) (pow8 r)] : Fin 8 → FVec Ideal S8x512 .f32) q
      (ix2 ⟨n.val % 8, hm⟩ d) = r (ix2 0 d) ^ (n.val % 8 + 1) * (r (ix2 0 d) ^ 8) ^ q.val := by
    intro q
    fin_cases q <;> simp [mulf_apply, powBlk_apply, pow8_apply, pow_succ, mul_assoc]
  rw [key, ← pow_mul, ← pow_add]
  congr 1
  show n.val % 8 + 1 + 8 * (n.val / 8) = n.val + 1
  omega

end Cert.KernelIdeal.Scan
-- ==== Proof.KScan.lean ====
module

public import proofs.«01_k».proof.Proof.KMath

@[expose] public section

/-! # The kernel's scan at an index

One step of the scan read at an index, a group of eight steps, and the whole scan: the state before every trip and the
output rows are the recurrence and the read-out of `Cert.Mamba`. -/

namespace Cert.KernelIdeal.Scan

open Idealize.ShloMosaic Idealize.ShloMosaic.TcCoe Idealize.ShloMosaic.ValueIdx Idealize.ShloMosaic.Pipeline
open Cert.KernelIdeal Cert.KernelIdeal.Gen
open scoped BigOperators

/-- A column on every column, read at an index. -/
theorem bc_col (v : FVec Ideal S64x1 .f32) (n : Fin 64) (d : Fin 512) : broadcastTo S64x512 v broadcasts_S64x1_S64x512 (ix2 n d) = v (ix2 n 0) := by
  refine congrArg v ?_
  funext a
  apply Fin.ext
  match a with
  | ⟨0, _⟩ => rfl
  | ⟨1, _⟩ => rfl

/-- A row of a block of eight, read at an index. -/
theorem row_of (E : FVec Ideal S8x512 .f32) (j : Fin 8) (d : Fin 512) :
    extractStridedSlice S1x512 ![j.val, 0] E (slice_row j) (ix2 0 d) = E (ix2 j d) :=
  slice2_axis0_apply j.val E (slice_row j) 0 d j (Nat.add_zero _).symm

/-- The first half of a column, read at an index. -/
theorem lo_of (T : FVec Ideal S128x8 .f32) (j : Fin 8) (n : Fin 64) :
    extractStridedSlice S64x1 ![0, 0] (extractStridedSlice S128x1 ![0, j.val] T (slice_col j)) slices_S128x1_o0_0_S64x1 (ix2 n 0)
      = T (ix2 ⟨n.val, by omega⟩ j) := by
  refine (slice2_axis0_apply 0 _ slices_S128x1_o0_0_S64x1 n 0 ⟨n.val, by omega⟩ (Nat.zero_add _).symm).trans ?_
  exact slice2_axis1_apply j.val T (slice_col j) ⟨n.val, by omega⟩ 0 j (Nat.add_zero _).symm

/-- The second half of a column, read at an index. -/
theorem hi_of (T : FVec Ideal S128x8 .f32) (j : Fin 8) (n : Fin 64) :
    extractStridedSlice S64x1 ![64, 0] (extractStridedSlice S128x1 ![0, j.val] T (slice_col j)) slices_S128x1_o64_0_S64x1 (ix2 n 0)
      = T (ix2 ⟨64 + n.val, by omega⟩ j) := by
  refine (slice2_axis0_apply 64 _ slices_S128x1_o64_0_S64x1 n 0 ⟨64 + n.val, by omega⟩ rfl).trans ?_
  exact slice2_axis1_apply j.val T (slice_col j) ⟨64 + n.val, by omega⟩ 0 j (Nat.add_zero _).symm

/-- One step of the state, read at an index. -/
theorem sub_apply (E D : FVec Ideal S8x512 .f32) (T : FVec Ideal S128x8 .f32) (j : Fin 8) (h : FVec Ideal S64x512 .f32) (n : Fin 64) (d : Fin 512) :
    sub E D T j h (ix2 n d) = E (ix2 j d) ^ (n.val + 1) * h (ix2 n d) + T (ix2 ⟨n.val, by omega⟩ j) * D (ix2 j d) := by
  unfold sub
  rw [addf_apply, mulf_apply, mulf_apply, decay_apply, bc_col, bc_row, row_of, row_of, lo_of]

/-- One output row, read at an index. -/
theorem row_apply (T : FVec Ideal S128x8 .f32) (j : Fin 8) (h : FVec Ideal S64x512 .f32) (d : Fin 512) :
    row T j h (ix2 0 d) = ∑ n : Fin 64, h (ix2 n d) * T (ix2 ⟨64 + n.val, by omega⟩ j) := by
  unfold row
  refine (shapeCast_a_1a_apply _ shapeCasts_S512_S1x512 0 d).trans ?_
  refine (Ideal.multiReduction_add_single _ _ reduces_S64x512_S512 _ _ (ix1 d)).trans ?_
  refine Finset.sum_congr rfl fun n _ => ?_
  have e : reduces_S64x512_S512.lift (ix1 d) n = ix2 (n : Fin 64) d := by
    funext a
    apply Fin.ext
    match a with
    | ⟨0, _⟩ => rfl
    | ⟨1, _⟩ => rfl
  refine (congrArg _ e).trans ?_
  exact congrArg (h (ix2 (n : Fin 64) d) * ·) ((bc_col _ n d).trans (hi_of T j n))

/-- The eight output rows of a group, read at an index. -/
theorem rows_apply (E D : FVec Ideal S8x512 .f32) (T : FVec Ideal S128x8 .f32) (h : FVec Ideal S64x512 .f32) (j : Fin 8) (d : Fin 512) :
    rows E D T h (ix2 j d) = row T j (grp E D T h (j.val + 1)) (ix2 0 d) :=
  cat8 (N := 8) (K := 1) (M := 512) (α := EReal) (fun j => row T j (grp E D T h (j.val + 1)))
    concatenates_S1x512_S1x512_S1x512_S1x512_S1x512_S1x512_S1x512_S1x512_S8x512_d0 j d j 0 (Nat.div_one _) (Nat.mod_one _).symm

/-- The exponential of a negated block, read at an index. -/
theorem pay7_apply (v : FVec Ideal S8x512 .f32) (x : S8x512.Idx) : k0_pay7 (F := Ideal) v x = Ideal.exp (0 - v x) := by
  show Ideal.exp (Ideal.ofBits .f32 0x00000000#32 - v x) = _
  rw [Ideal.ofBits_zero_f32]

/-- A transposed block, read at an index. -/
theorem pay6_apply (v : FVec Ideal S8x128 .f32) (i : Fin 128) (j : Fin 8) : k0_pay6 (F := Ideal) v (ix2 i j) = v (ix2 j i) :=
  transpose_ix2_apply v transposes_S8x128_p1_0_S128x8 i j

section scan

variable (p : Cert.Mamba.Inp) (DT DU : FVec Ideal S2048x512 .f32) (BC : FVec Ideal S2048x128 .f32)

/-- The three arrays the scan reads are the step size, its product with the signal, and the two projections. -/
structure Reads : Prop where
  dt : ∀ t d, DT (ix2 t d) = Cert.Mamba.dt p t d
  du : ∀ t d, DU (ix2 t d) = Cert.Mamba.dt p t d * Cert.Mamba.u p t d
  b : ∀ t (n : Fin 64), BC (ix2 t ⟨n.val, by omega⟩) = Cert.Mamba.proj p t ⟨8 + n.val, by omega⟩
  c : ∀ t (n : Fin 64), BC (ix2 t ⟨64 + n.val, by omega⟩) = Cert.Mamba.proj p t ⟨72 + n.val, by omega⟩

variable {p DT DU BC} (R : Reads p DT DU BC) (hp : Cert.Mamba.LogN p)

include R hp in
/-- A group of steps carries the recurrence's state over its steps. -/
theorem grp_apply (k : Fin 256) (h0 : FVec Ideal S64x512 .f32) (hh : ∀ n d, h0 (ix2 n d) = Cert.Mamba.h p (8 * k.val) n d) (m : ℕ) (hm : m ≤ 8)
    (n : Fin 64) (d : Fin 512) :
    grp (k0_pay7 (win DT k)) (win DU k) (k0_pay6 (winB BC k)) h0 m (ix2 n d) = Cert.Mamba.h p (8 * k.val + m) n d := by
  induction m generalizing n d with
  | zero => exact hh n d
  | succ m ih =>
    have hk := k.isLt
    have ht : 8 * k.val + m < 2048 := by omega
    have hj : (Fin.ofNat 8 m).val = m := Nat.mod_eq_of_lt (by omega)
    have e : (⟨8 * k.val + (Fin.ofNat 8 m).val, by omega⟩ : Fin 2048) = ⟨8 * k.val + m, ht⟩ := Fin.ext (congrArg (8 * k.val + ·) hj)
    show sub _ _ _ (Fin.ofNat 8 m) _ (ix2 n d) = _
    rw [sub_apply, ih (by omega), pay7_apply, pay6_apply]
    have e1 : win DT k (ix2 (Fin.ofNat 8 m) d) = Cert.Mamba.dt p ⟨8 * k.val + m, ht⟩ d := (R.dt _ d).trans (congrArg (fun t => Cert.Mamba.dt p t d) e)
    have e2 : win DU k (ix2 (Fin.ofNat 8 m) d) = Cert.Mamba.dt p ⟨8 * k.val + m, ht⟩ d * Cert.Mamba.u p ⟨8 * k.val + m, ht⟩ d :=
      (R.du _ d).trans (congrArg (fun t => Cert.Mamba.dt p t d * Cert.Mamba.u p t d) e)
    have e3 : winB BC k (ix2 (Fin.ofNat 8 m) ⟨n.val, by omega⟩) = Cert.Mamba.proj p ⟨8 * k.val + m, ht⟩ ⟨8 + n.val, by omega⟩ :=
      (R.b _ n).trans (congrArg (fun t => Cert.Mamba.proj p t ⟨8 + n.val, by omega⟩) e)
    rw [e1, e2, e3, ← Cert.Mamba.decay_eq p hp]
    exact (Cert.Mamba.h_succ p _ ht n d).symm

include R hp in
/-- Before trip `k` the state is the recurrence's before step `8k`. -/
theorem stateAt_apply (k : ℕ) (hk : k ≤ 256) (n : Fin 64) (d : Fin 512) :
    stateAt DT DU BC k0_pay2 k (ix2 n d) = Cert.Mamba.h p (8 * k) n d := by
  induction k generalizing n d with
  | zero => exact Ideal.ofBits_zero_f32
  | succ k ih =>
    have h : k < 256 := by omega
    have e : stateAt DT DU BC k0_pay2 (k + 1) = grp (k0_pay7 (win DT ⟨k, h⟩)) (win DU ⟨k, h⟩) (k0_pay6 (winB BC ⟨k, h⟩)) (stateAt DT DU BC k0_pay2 k) 8 := dif_pos h
    rw [e]
    exact grp_apply R hp ⟨k, h⟩ _ (ih (by omega)) 8 (le_refl 8) n d

include R hp in
/-- The output rows are the read-out. -/
theorem ysArr_apply (t : Fin 2048) (d : Fin 512) : ysArr DT DU BC k0_pay2 (ix2 t d) = Cert.Mamba.y p t d := by
  have hq : t.val / 8 < 256 := by omega
  have hm : t.val % 8 < 8 := Nat.mod_lt _ (by omega)
  have ht : 8 * (t.val / 8) + t.val % 8 = t.val := by omega
  show rows (k0_pay7 (win DT ⟨t.val / 8, hq⟩)) (win DU ⟨t.val / 8, hq⟩) (k0_pay6 (winB BC ⟨t.val / 8, hq⟩)) (stateAt DT DU BC k0_pay2 (t.val / 8))
    (ix2 ⟨t.val % 8, hm⟩ d) = _
  rw [rows_apply, row_apply]
  refine Finset.sum_congr rfl fun n _ => ?_
  rw [grp_apply R hp ⟨t.val / 8, hq⟩ _ (fun n d => stateAt_apply R hp (t.val / 8) (by omega) n d) (t.val % 8 + 1) (by omega), pay6_apply]
  have e : (⟨8 * (t.val / 8) + t.val % 8, by omega⟩ : Fin 2048) = t := Fin.ext ht
  have e1 : winB BC ⟨t.val / 8, hq⟩ (ix2 ⟨t.val % 8, hm⟩ ⟨64 + n.val, by omega⟩) = Cert.Mamba.proj p t ⟨72 + n.val, by omega⟩ :=
    (R.c _ n).trans (congrArg (fun t => Cert.Mamba.proj p t ⟨72 + n.val, by omega⟩) e)
  rw [e1]
  show Cert.Mamba.h p (8 * (t.val / 8) + (t.val % 8 + 1)) n d * _ = _
  rw [← Nat.add_assoc, ht]

end scan

end Cert.KernelIdeal.Scan
-- ==== Proof.KPay.lean ====
module

public import proofs.«01_k».proof.Proof.KScan

@[expose] public section

/-! # The kernel's output block at an index

The kernel's values before and after its scan, read at an index, and the output block of one batch. -/

namespace Cert.KernelIdeal.Scan

open Idealize.ShloMosaic Idealize.ShloMosaic.TcCoe Idealize.ShloMosaic.ValueIdx Idealize.ShloMosaic.Pipeline
open Cert.KernelIdeal Cert.KernelIdeal.Gen
open scoped BigOperators

/-- A signal under `s` rows of zeros, read at an index: the signal `s` rows earlier, or zero. -/
theorem late_apply {s r : ℕ} (f : Fin 2048 → Fin 512 → EReal) (v : FVec Ideal S2048x512 .f32) (hv : ∀ t d, v (ix2 t d) = f t d)
    (hs : S2048x512.Slices ![0, 0] ⟨2, ![r, 512]⟩) (hsum : s + r = 2048)
    (hc : Shape.Concatenates [⟨2, ![s, 512]⟩, ⟨2, ![r, 512]⟩] S2048x512 0) (t : Fin 2048) (d : Fin 512) :
    concatenate S2048x512 0 [⟨⟨2, ![s, 512]⟩, broadcast ⟨2, ![s, 512]⟩ (Scalar.ofBits (F := Ideal) .f32 0x00000000#32)⟩,
      ⟨⟨2, ![r, 512]⟩, extractStridedSlice ⟨2, ![r, 512]⟩ ![0, 0] v hs⟩] hc (ix2 t d) = Cert.Mamba.late f s t d := by
  unfold Cert.Mamba.late
  by_cases h : s ≤ t.val
  · rw [dif_pos h]
    have ht := t.isLt
    refine (concatenate_pair_apply_right 0 _ _ hc (ix2 t d) rfl rfl (ix2 ⟨t.val - s, by omega⟩ d) (fun b hb => ?_) ?_).trans ?_
    · match b, hb with
      | ⟨0, _⟩, hb => exact absurd (Fin.ext rfl) hb
      | ⟨1, _⟩, _ => rfl
    · show t.val - s + s = t.val
      omega
    · refine (slice2_axis0_apply 0 v hs ⟨t.val - s, by omega⟩ d ⟨t.val - s, by omega⟩ (Nat.zero_add _).symm).trans ?_
      exact hv _ d
  · rw [dif_neg h]
    refine (concatenate_pair_apply_left 0 _ _ hc (ix2 t d) rfl (ix2 ⟨t.val, by omega⟩ d) (fun b => ?_)).trans ?_
    · match b with
      | ⟨0, _⟩ => rfl
      | ⟨1, _⟩ => rfl
    · exact Ideal.ofBits_zero_f32

/-- A tap on every row, read at an index. -/
theorem tap (k : Fin 4) (w : FVec Ideal S4x512 .f32) (hs : S4x512.Slices ![k.val, 0] S1x512) (t : Fin 2048) (d : Fin 512) :
    broadcastTo S2048x512 (extractStridedSlice S1x512 ![k.val, 0] w hs) broadcasts_S1x512_S2048x512 (ix2 t d) = w (ix2 k d) :=
  (bc_row _ broadcasts_S1x512_S2048x512 t d).trans (slice2_axis0_apply k.val w hs 0 d k (Nat.add_zero _).symm)

section pays

variable (p : Cert.Mamba.Inp) (x0 : FVec Ideal S1x2048x128 .f32) (x1 x2 : FVec Ideal S128x512 .f32) (x3 : FVec Ideal S4x512 .f32)
  (x4 : FVec Ideal S1x512 .f32) (x5 x6 : FVec Ideal S512x64 .f32) (x7 : FVec Ideal S512x8 .f32) (x8 : FVec Ideal S8x512 .f32)
  (x9 : FVec Ideal S1x512 .f32) (x11 : FVec Ideal S1x512 .f32) (x12 : FVec Ideal S512x128 .f32)

/-- The blocks the kernel loads are the arguments of `p`. -/
structure Blocks : Prop where
  x : ∀ t c, x0 (ix3 0 t c) = p.x t c
  wxi : ∀ c (d : Fin 512), x1 (ix2 c d) = p.win ⟨d.val, by omega⟩ c
  wz : ∀ c (d : Fin 512), x2 (ix2 c d) = p.win ⟨512 + d.val, by omega⟩ c
  cw : ∀ k d, x3 (ix2 k d) = p.cw d k
  cb : ∀ d, x4 (ix2 0 d) = p.cb d
  wb : ∀ d (n : Fin 64), x5 (ix2 d n) = p.wx ⟨8 + n.val, by omega⟩ d
  wc : ∀ d (n : Fin 64), x6 (ix2 d n) = p.wx ⟨72 + n.val, by omega⟩ d
  wr : ∀ d (r : Fin 8), x7 (ix2 d r) = p.wx ⟨r.val, by omega⟩ d
  wdt : ∀ r d, x8 (ix2 r d) = p.wdt d r
  bdt : ∀ d, x9 (ix2 0 d) = p.bdt d
  dd : ∀ d, x11 (ix2 0 d) = p.dd d
  wo : ∀ d c, x12 (ix2 d c) = p.wo c d

variable {p x0 x1 x2 x3 x4 x5 x6 x7 x8 x9 x11 x12} (B : Blocks p x0 x1 x2 x3 x4 x5 x6 x7 x8 x9 x11 x12)

include B in
/-- The loaded batch, read at an index. -/
theorem pay78_apply (t : Fin 2048) (c : Fin 128) : k0_pay78 (F := Ideal) x0 (ix2 t c) = p.x t c :=
  (shapeCast_1ab_ab_apply x0 shapeCasts_S1x2048x128_S2048x128 t c).trans (B.x t c)

include B in
/-- The convolution's input, read at an index. -/
theorem xi_apply (t : Fin 2048) (d : Fin 512) :
    matmul dot_S2048x128_S128x512_S2048x512_1_0_0_1_n_n none (k0_pay78 (F := Ideal) x0) (shapeCast S128x512 x1 shapeCasts_S128x512_S128x512)
      (constant S2048x512 .f32 0x00000000#32) (ix2 t d) = Cert.Mamba.xi p t d := by
  rw [shapeCast_self]
  refine (mm (M := 2048) (K := 128) (N := 512) _ rfl _ _ t d).trans (Finset.sum_congr rfl fun c _ => ?_)
  rw [pay78_apply B, B.wxi]

include B in
/-- The gate's input, read at an index. -/
theorem pay79_apply (t : Fin 2048) (d : Fin 512) : k0_pay79 (F := Ideal) x0 x2 (ix2 t d) = Cert.Mamba.z p t d := by
  unfold k0_pay79
  rw [shapeCast_self]
  refine (mm (M := 2048) (K := 128) (N := 512) _ rfl _ _ t d).trans (Finset.sum_congr rfl fun c _ => ?_)
  rw [pay78_apply B, B.wz]

include B in
/-- The convolved signal, read at an index. -/
theorem pay80_apply (t : Fin 2048) (d : Fin 512) : k0_pay80 (F := Ideal) x0 x1 x3 x4 (ix2 t d) = Cert.Mamba.u p t d := by
  unfold k0_pay80
  have c3 : shapeCast S4x512 x3 shapeCasts_S4x512_S4x512 = x3 := shapeCast_self _ _
  have c4 : shapeCast S1x512 x4 shapeCasts_S1x512_S1x512 = x4 := shapeCast_self _ _
  have hv := xi_apply B
  have hl1 := late_apply (s := 1) (r := 2047) _ _ hv slices_S2048x512_o0_0_S2047x512 rfl concatenates_S1x512_S2047x512_S2048x512_d0 t d
  have hl2 := late_apply (s := 2) (r := 2046) _ _ hv slices_S2048x512_o0_0_S2046x512 rfl concatenates_S2x512_S2046x512_S2048x512_d0 t d
  have hl3 := late_apply (s := 3) (r := 2045) _ _ hv slices_S2048x512_o0_0_S2045x512 rfl concatenates_S3x512_S2045x512_S2048x512_d0 t d
  have w3 := (tap 3 (shapeCast S4x512 x3 shapeCasts_S4x512_S4x512) slices_S4x512_o3_0_S1x512 t d).trans ((congrFun c3 _).trans (B.cw 3 d))
  have w2 := (tap 2 (shapeCast S4x512 x3 shapeCasts_S4x512_S4x512) slices_S4x512_o2_0_S1x512 t d).trans ((congrFun c3 _).trans (B.cw 2 d))
  have w1 := (tap 1 (shapeCast S4x512 x3 shapeCasts_S4x512_S4x512) slices_S4x512_o1_0_S1x512 t d).trans ((congrFun c3 _).trans (B.cw 1 d))
  have w0 := (tap 0 (shapeCast S4x512 x3 shapeCasts_S4x512_S4x512) slices_S4x512_o0_0_S1x512 t d).trans ((congrFun c3 _).trans (B.cw 0 d))
  have hb := (bc_row (shapeCast S1x512 x4 shapeCasts_S1x512_S1x512) broadcasts_S1x512_S2048x512 t d).trans ((congrFun c4 _).trans (B.cb d))
  have e : ∀ a b c e w₃ w₂ w₁ w₀ b₀ : EReal, a = Cert.Mamba.xi p t d → b = Cert.Mamba.late (Cert.Mamba.xi p) 1 t d →
      c = Cert.Mamba.late (Cert.Mamba.xi p) 2 t d → e = Cert.Mamba.late (Cert.Mamba.xi p) 3 t d →
      w₃ = p.cw d 3 → w₂ = p.cw d 2 → w₁ = p.cw d 1 → w₀ = p.cw d 0 → b₀ = p.cb d →
      ((((a * w₃ + b * w₂) + c * w₁) + e * w₀) + b₀) * Ideal.logistic ((((a * w₃ + b * w₂) + c * w₁) + e * w₀) + b₀) = Cert.Mamba.u p t d := by
    rintro a b c e w₃ w₂ w₁ w₀ b₀ rfl rfl rfl rfl rfl rfl rfl rfl rfl
    rfl
  exact e _ _ _ _ _ _ _ _ _ (hv t d) hl1 hl2 hl3 w3 w2 w1 w0 hb

/-- The printed softplus of an array, read at an index. -/
theorem softplus_apply (v : EReal) :
    (if Ideal.cmp .one (v - 0) (v - 0) = 1#1 then v + 0 else max v 0 + Ideal.log1p (Ideal.exp (0 - max (v - 0) (-(v - 0))))) = Cert.Mamba.softplus v := by
  have h : ¬ Ideal.cmp .one (v - 0) (v - 0) = 1#1 := by
    show ¬ BitVec.ofBool (decide (v - 0 ≠ v - 0)) = 1#1
    simp
  rw [if_neg h, sub_zero, zero_sub]
  rfl

section mid

variable {U : FVec Ideal S2048x512 .f32} (hU : ∀ t d, U (ix2 t d) = Cert.Mamba.u p t d)

include B hU in
/-- The step size, read at an index. -/
theorem pay81_apply (t : Fin 2048) (d : Fin 512) : k0_pay81 (F := Ideal) U x7 x8 x9 (ix2 t d) = Cert.Mamba.dt p t d := by
  have e1 : ∀ (r : Fin 8), matmul dot_S2048x512_S512x8_S2048x8_1_0_0_1_n_n none U x7 (constant S2048x8 .f32 0x00000000#32) (ix2 t r)
      = Cert.Mamba.proj p t ⟨r.val, by omega⟩ := fun r =>
    (mm (M := 2048) (K := 512) (N := 8) _ rfl _ _ t r).trans (Finset.sum_congr rfl fun d _ => by rw [hU, B.wr])
  have e2 : matmul dot_S2048x8_S8x512_S2048x512_1_0_0_1_n_n none
      (matmul dot_S2048x512_S512x8_S2048x8_1_0_0_1_n_n none U x7 (constant S2048x8 .f32 0x00000000#32)) x8 (constant S2048x512 .f32 0x00000000#32) (ix2 t d)
      = ∑ r : Fin 8, Cert.Mamba.proj p t ⟨r.val, by omega⟩ * p.wdt d r :=
    (mm (M := 2048) (K := 8) (N := 512) _ rfl _ _ t d).trans (Finset.sum_congr rfl fun r _ => by rw [e1, B.wdt])
  have e3 := (bc_row x9 broadcasts_S1x512_S2048x512 t d).trans (B.bdt d)
  unfold k0_pay81
  simp only [shapeCast_self]
  have e : ∀ a b zz : EReal, zz = 0 → a = (∑ r : Fin 8, Cert.Mamba.proj p t ⟨r.val, by omega⟩ * p.wdt d r) → b = p.bdt d →
      (if Ideal.cmp .one (a + b - zz) (a + b - zz) = 1#1 then a + b + zz
        else max (a + b) zz + Ideal.log1p (Ideal.exp (zz - max (a + b - zz) (-(a + b - zz))))) = Cert.Mamba.dt p t d := by
    rintro a b zz rfl rfl rfl
    exact softplus_apply _
  exact e _ _ _ Ideal.ofBits_zero_f32 e2 e3

include B hU in
/-- The two projections, read at an index of the first. -/
theorem pay84_lo (t : Fin 2048) (n : Fin 64) :
    k0_pay84 (F := Ideal) U x5 x6 (ix2 t ⟨n.val, by omega⟩) = Cert.Mamba.proj p t ⟨8 + n.val, by omega⟩ := by
  unfold k0_pay84
  simp only [shapeCast_self]
  refine (concatenate_pair_apply_left (t := S2048x128) (s₁ := S2048x64) (s₂ := S2048x64) 1 _ _ concatenates_S2048x64_S2048x64_S2048x128_d1 (ix2 t ⟨n.val, by omega⟩) rfl (ix2 t n) (fun b => ?_)).trans ?_
  · match b with
    | ⟨0, _⟩ => rfl
    | ⟨1, _⟩ => rfl
  · exact (mm (M := 2048) (K := 512) (N := 64) _ rfl _ _ t n).trans (Finset.sum_congr rfl fun d _ => by rw [hU, B.wb])

include B hU in
/-- The two projections, read at an index of the second. -/
theorem pay84_hi (t : Fin 2048) (n : Fin 64) :
    k0_pay84 (F := Ideal) U x5 x6 (ix2 t ⟨64 + n.val, by omega⟩) = Cert.Mamba.proj p t ⟨72 + n.val, by omega⟩ := by
  unfold k0_pay84
  simp only [shapeCast_self]
  refine (concatenate_pair_apply_right (t := S2048x128) (s₁ := S2048x64) (s₂ := S2048x64) 1 _ _ concatenates_S2048x64_S2048x64_S2048x128_d1 (ix2 t ⟨64 + n.val, by omega⟩) rfl rfl (ix2 t n) (fun b hb => ?_) ?_).trans ?_
  · match b, hb with
    | ⟨0, _⟩, _ => rfl
    | ⟨1, _⟩, hb => exact absurd (Fin.ext rfl) hb
  · show n.val + 64 = 64 + n.val
    omega
  · exact (mm (M := 2048) (K := 512) (N := 64) _ rfl _ _ t n).trans (Finset.sum_congr rfl fun d _ => by rw [hU, B.wc])

include B hU in
/-- The arrays the scan reads. -/
theorem reads : Reads p (k0_pay82 (F := Ideal) U x7 x8 x9) (k0_pay83 (F := Ideal) U x7 x8 x9) (k0_pay1 (k0_pay84 (F := Ideal) U x5 x6)) where
  dt t d := by
    unfold k0_pay82
    rw [shapeCast_self]
    exact pay81_apply B hU t d
  du t d := by
    unfold k0_pay83
    rw [shapeCast_self, mulf_apply, pay81_apply B hU, hU]
  b t n := by
    unfold k0_pay1
    rw [shapeCast_self]
    exact pay84_lo B hU t n
  c t n := by
    unfold k0_pay1
    rw [shapeCast_self]
    exact pay84_hi B hU t n

end mid

include B in
/-- The output block of one batch is the block's output. -/
theorem outVal_apply (hp : Cert.Mamba.LogN p) (t : Fin 2048) (c : Fin 128) :
    outVal (F := Ideal) x0 x1 x2 x3 x4 x5 x6 x7 x8 x9 x11 x12 (ix3 0 t c) = Cert.Mamba.out p t c := by
  unfold outVal k0_pay5
  simp only [shapeCast_self]
  refine (shapeCast_ab_1ab_apply _ shapeCasts_S2048x128_S1x2048x128 0 t c).trans ?_
  rw [addf_apply, pay78_apply B]
  refine congrArg (p.x t c + ·) ((mm (M := 2048) (K := 512) (N := 128) _ rfl _ _ t c).trans (Finset.sum_congr rfl fun d _ => ?_))
  rw [B.wo, mulf_apply, mulf_apply, addf_apply, mulf_apply, ysArr_apply (reads B (pay80_apply B)) hp, pay80_apply B, pay79_apply B]
  have e3 := (bc_row x11 broadcasts_S1x512_S2048x512 t d).trans (B.dd d)
  rw [e3]
  show _ * (_ * Ideal.logistic (k0_pay79 (F := Ideal) x0 x2 (ix2 t d))) * _ = _
  rw [pay79_apply B]
  rfl

end pays

end Cert.KernelIdeal.Scan
-- ==== Proof.Args.lean ====
module

public import proofs.«01_k».proof.Proof.Spec
public import Idealize.ShloMosaic.Lib.ValueLayout
public import Idealize.ShloMosaic.Lib.IdealHost

@[expose] public section

/-! # The block over the argument arrays

The ten argument arrays as `Cert.Mamba` reads them for one batch, and the whole output array. -/

namespace Cert.Mamba

open Idealize.ShloMosaic Idealize.ShloMosaic.ValueIdx

variable (a0 : (⟨4, ![4, 128, 1, 2048]⟩ : Shape).Idx → EReal) (a1 : (⟨2, ![1024, 128]⟩ : Shape).Idx → EReal)
  (a2 : (⟨3, ![512, 1, 4]⟩ : Shape).Idx → EReal) (a3 : (⟨1, ![512]⟩ : Shape).Idx → EReal) (a4 : (⟨2, ![136, 512]⟩ : Shape).Idx → EReal)
  (a5 : (⟨2, ![512, 8]⟩ : Shape).Idx → EReal) (a6 : (⟨1, ![512]⟩ : Shape).Idx → EReal) (a7 : (⟨2, ![512, 64]⟩ : Shape).Idx → EReal)
  (a8 : (⟨1, ![512]⟩ : Shape).Idx → EReal) (a9 : (⟨2, ![128, 512]⟩ : Shape).Idx → EReal)

/-- The argument arrays as batch `b` of the block reads them. -/
noncomputable def inpOf (b : Fin 4) : Inp where
  x t c := a0 (ix4 b c 0 t)
  win j c := a1 (ix2 j c)
  cw d k := a2 (ix3 d 0 k)
  cb d := a3 (ix1 d)
  wx j d := a4 (ix2 j d)
  wdt d r := a5 (ix2 d r)
  bdt d := a6 (ix1 d)
  al d n := a7 (ix2 d n)
  dd d := a8 (ix1 d)
  wo c d := a9 (ix2 c d)

/-- The whole output: batch, channel, unit, time. -/
noncomputable def outAll : (⟨4, ![4, 128, 1, 2048]⟩ : Shape).Idx → EReal := fun i =>
  out (inpOf a0 a1 a2 a3 a4 a5 a6 a7 a8 a9 (i 0)) (i 3) (i 1)

end Cert.Mamba
-- ==== Proof.KOut.lean ====
module

public import proofs.«01_k».proof.Proof.KValue
public import proofs.«01_k».proof.Proof.KPay
public import proofs.«01_k».proof.Proof.Args

@[expose] public section

/-! # The kernel's result

The array the kernel's program returns is the block's output over its arguments, where the decay rates' logarithms are the
logarithms of `1 … 64`. -/

namespace Cert.KernelIdeal.Scan

open Idealize.ShloMosaic Idealize.ShloMosaic.TcCoe Idealize.ShloMosaic.ValueIdx Idealize.ShloMosaic.Pipeline
open Cert.KernelIdeal Cert.KernelIdeal.Gen
open scoped BigOperators

variable (m : (ℓ : Loc nD τ sig) → Buf (Elt Ideal) ℓ) (c : Dev nD)

/-- The program's arguments as batch `b` of the block reads them. -/
noncomputable abbrev inp (b : Fin 4) : Cert.Mamba.Inp :=
  Cert.Mamba.inpOf (arg m c main_arg0) (arg m c main_arg1) (arg m c main_arg2) (arg m c main_arg3) (arg m c main_arg4) (arg m c main_arg5)
    (arg m c main_arg6) (arg m c main_arg7) (arg m c main_arg8) (arg m c main_arg9) b

/-- A row of a matrix that a vector was broadcast to, read at an index. -/
theorem vec_row (v : FVec Ideal S512 .f32) (d : Fin 512) : broadcastInDim S1x512 ![1] bcast_S512_S1x512_1 v (ix2 0 d) = v (ix1 d) := by
  refine congrArg v (funext fun a => Fin.ext ?_)
  match a with
  | ⟨0, _⟩ => rfl

/-- The blocks a grid point loads are its batch's arguments. -/
theorem blocks (t : Fin cfg0.N) (b : Fin 4) (hb : t.val = b.val) :
    Blocks (inp m c b) (iblk m c 0 t) (iblk m c 1 t) (iblk m c 2 t) (iblk m c 3 t) (iblk m c 4 t) (iblk m c 5 t) (iblk m c 6 t) (iblk m c 7 t)
      (iblk m c 8 t) (iblk m c 9 t) (iblk m c 11 t) (iblk m c 12 t) := by
  refine ⟨?_, ?_, ?_, ?_, ?_, ?_, ?_, ?_, ?_, ?_, ?_, ?_⟩
  · intro s ch
    rw [iblk0_eq, V1_eq]
    have e : (⟨t.val, t.isLt⟩ : Fin 4) = b := Fin.ext hb
    refine (transpose_ix3_021_apply (m := 4) (a := 128) (b := 2048) _ transposes_S4x128x2048_S4x2048x128_0_2_1 ⟨t.val, t.isLt⟩ s ch).trans ?_
    refine (congrArg (fun b : Fin 4 => shapeCast S4x128x2048 (arg m c main_arg0) shapeCasts_S4x128x1x2048_S4x128x2048 (ix3 b ch s)) e).trans ?_
    refine shapeCast_apply _ shapeCasts_S4x128x1x2048_S4x128x2048 _ (ix4 b ch 0 s) ?_
    rw [Shape.rowMajor_val_three, Shape.rowMajor_val_four]
    show ((b.val * 128 + ch.val) * 1 + 0) * 2048 + s.val = (b.val * 128 + ch.val) * 2048 + s.val
    omega
  · intro ch d
    rw [iblk1_eq, V3_eq]
    refine (transpose_ix2_apply (a := 512) (b := 128) _ transposes_S512x128_S128x512_1_0 ch d).trans ?_
    exact slice2_axis0_apply 0 (arg m c main_arg1) slices_S1024x128_S512x128_0_0 d ch ⟨d.val, by omega⟩ (Nat.zero_add _).symm
  · intro ch d
    rw [iblk2_eq, V5_eq]
    refine (transpose_ix2_apply (a := 512) (b := 128) _ transposes_S512x128_S128x512_1_0 ch d).trans ?_
    exact slice2_axis0_apply 512 (arg m c main_arg1) slices_S1024x128_S512x128_512_0 d ch ⟨512 + d.val, by omega⟩ rfl
  · intro k d
    rw [iblk3_eq, V7_eq]
    refine (transpose_ix2_apply (a := 512) (b := 4) _ transposes_S512x4_S4x512_1_0 k d).trans ?_
    refine shapeCast_apply _ shapeCasts_S512x1x4_S512x4 _ (ix3 d 0 k) ?_
    rw [Shape.rowMajor_val_three, Shape.rowMajor_val_two]
    show (d.val * 1 + 0) * 4 + k.val = d.val * 4 + k.val
    omega
  · intro d
    rw [iblk4_eq, V17_eq]
    exact vec_row _ d
  · intro d n
    rw [iblk5_eq, V9_eq]
    refine (transpose_ix2_apply (a := 64) (b := 512) _ transposes_S64x512_S512x64_1_0 d n).trans ?_
    exact slice2_axis0_apply 8 (arg m c main_arg4) slices_S136x512_S64x512_8_0 n d ⟨8 + n.val, by omega⟩ rfl
  · intro d n
    rw [iblk6_eq, V11_eq]
    refine (transpose_ix2_apply (a := 64) (b := 512) _ transposes_S64x512_S512x64_1_0 d n).trans ?_
    exact slice2_axis0_apply 72 (arg m c main_arg4) slices_S136x512_S64x512_72_0 n d ⟨72 + n.val, by omega⟩ rfl
  · intro d r
    rw [iblk7_eq, V13_eq]
    refine (transpose_ix2_apply (a := 8) (b := 512) _ transposes_S8x512_S512x8_1_0 d r).trans ?_
    exact slice2_axis0_apply 0 (arg m c main_arg4) slices_S136x512_S8x512_0_0 r d ⟨r.val, by omega⟩ (Nat.zero_add _).symm
  · intro r d
    rw [iblk8_eq, V14_eq]
    exact transpose_ix2_apply (a := 512) (b := 8) (arg m c main_arg5) transposes_S512x8_S8x512_1_0 r d
  · intro d
    rw [iblk9_eq, V18_eq]
    exact vec_row _ d
  · intro d
    rw [iblk11_eq, V19_eq]
    exact vec_row _ d
  · intro d ch
    rw [iblk12_eq, V16_eq]
    exact transpose_ix2_apply (a := 128) (b := 512) (arg m c main_arg9) transposes_S128x512_S512x128_1_0 d ch

/-- The returned array is the block's output. -/
theorem result_eq (hp : ∀ b, Cert.Mamba.LogN (inp m c b)) :
    result m c = Cert.Mamba.outAll (arg m c main_arg0) (arg m c main_arg1) (arg m c main_arg2) (arg m c main_arg3) (arg m c main_arg4) (arg m c main_arg5)
      (arg m c main_arg6) (arg m c main_arg7) (arg m c main_arg8) (arg m c main_arg9) := by
  funext i
  have e1 : result m c i = outArr m c (ix3 (i 0) (i 3) (i 1)) := by
    refine Eq.trans (congrArg (transpose S4x128x2048 [0, 2, 1] (outArr m c) transposes_S4x2048x128_S4x128x2048_0_2_1)
      (a₂ := ix3 (i 0) (i 1) (i 3)) (funext fun a => Fin.ext ?_)) ?_
    · match a with
      | ⟨0, _⟩ => rfl
      | ⟨1, _⟩ => rfl
      | ⟨2, _⟩ => rfl
    · exact transpose_ix3_021_apply (m := 4) (a := 2048) (b := 128) (outArr m c) transposes_S4x2048x128_S4x128x2048_0_2_1 (i 0) (i 1) (i 3)
  exact e1.trans (outVal_apply (blocks m c ⟨(i 0).val, (i 0).isLt⟩ (i 0) rfl) (hp (i 0)) (i 3) (i 1))

end Cert.KernelIdeal.Scan
-- ==== Proof.KSame.lean ====
/- The kernel as printed and as printed for the extended reals: no operation was rewritten, so the two are one program, and what is
   proved of the second for any float arithmetic holds of the first. -/
module

public import proofs.«01_k».proof.Proof.KValue
public import proofs.«01_k».proof.Proof.Gen.Kernel

@[expose] public section

noncomputable section

namespace Cert.Kernel.Same

open Idealize.ShloMosaic Idealize.SL.Sem

variable {F : FTy → Type} [FloatOps F]

/-- The two printings have the same main function. -/
theorem main_eq : Cert.Kernel.main (F := F) = Cert.KernelIdeal.main (F := F) := rfl

/-- The two printings have the same kernel bodies. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | 0 => exact funext fun ⟨t, s⟩ => rfl
  | ⟨_ + 1, h⟩ => exact absurd h (Nat.not_lt.2 (Nat.le_add_left _ _))

/-- The two printings have the same launches of the same bodies. -/
theorem defs_eq : Cert.Kernel.defs (F := F) = Cert.KernelIdeal.defs (F := F) := by
  unfold Cert.Kernel.defs Cert.KernelIdeal.defs
  exact congrArg (Pipeline.defs (Cert.KernelIdeal.pcfgs (F := F))) bodies_eq

/-- The kernel's frame: it runs, leaves its ten arguments as launched and every counter at zero. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩
      (fun r => (∀ c, Cert.KernelIdeal.Scan.Kept (F := F) m r.2.mem c) ∧ r.2.sem = fun _ => 0) := by
  rw [main_eq, defs_eq]
  exact (θ_run _ _ _).mono (fun r h => ⟨fun c => (h.1 c).2, h.2⟩) (Cert.KernelIdeal.Scan.run_value (F := F) m g)

end Cert.Kernel.Same

end
-- ==== Proof.RPre.lean ====
module

public import proofs.«01_k».proof.Proof.Gen.ReferenceIdeal.Run

@[expose] public section

set_option maxRecDepth 8192

/-! # The reference's stretches of operations

What each stretch of the reference's operations leaves in the buffers that are read later, as functions of the buffers the
stretch reads. -/

noncomputable section

namespace Cert.ReferenceIdeal.Math

open Idealize.ShloMosaic Idealize.ShloMosaic.TcCoe Idealize.ShloMosaic.StableHlo
open Cert.ReferenceIdeal Cert.ReferenceIdeal.Gen Cert.ReferenceIdeal.Value

variable {F : FTy → Type} [FloatOps F]

/-- A buffer's contents in a valuation. -/
abbrev rd (V : Valuation τ sig (Elt F)) (b : Ref sig .tc) : (Proc.devRef .tc b : DevRef τ sig).ty.Contents (Elt F) := V (Proc.devRef .tc b)

/-- The input projection. -/
def projIn (x : FVec F S4x128x1x2048 .f32) (w : FVec F S1024x128 .f32) : FVec F S4x2048x1024 .f32 :=
  Host.dotGeneral dot_S4x2048x128_S128x1024_S4x2048x1024_2_0_01_1_n_n none
    (transpose S4x2048x128 [0, 2, 1] (shapeCast S4x128x2048 x shapeCasts_S4x128x1x2048_S4x128x2048) transposes_S4x128x2048_S4x2048x128_0_2_1)
    (transpose S128x1024 [1, 0] w transposes_S1024x128_S128x1024_1_0)

/-- A vector over the lanes, on every batch and time. -/
def lanes (v : FVec F S512 .f32) : FVec F S4x2048x512 .f32 :=
  broadcastInDim S4x2048x512 ![0, 1, 2] bcast_S1x1x512_S4x2048x512_0_1_2 (broadcastInDim S1x1x512 ![2] bcast_S512_S1x1x512_2 v)

/-- A constant on every batch, time and lane. -/
def splat (b : BitVec 32) : FVec F S4x2048x512 .f32 := broadcastInDim S4x2048x512 ![] bcast_S_S4x2048x512 (constant S_ .f32 b)

/-- The convolution of the padded signal, with its bias. -/
def convR (x : FVec F S4x2051x512 .f32) (w : FVec F S512x1x4 .f32) (b : FVec F S512 .f32) : FVec F S4x2048x512 .f32 :=
  addf (addf (addf (addf (addf (splat 0x00000000#32)
    (mulf (extractStridedSlice S4x2048x512 ![0, 0, 0] x slices_S4x2051x512_S4x2048x512_0_0_0)
      (lanes (shapeCast S512 (extractStridedSlice S512x1x1 ![0, 0, 0] w slices_S512x1x4_S512x1x1_0_0_0) shapeCasts_S512x1x1_S512))))
    (mulf (extractStridedSlice S4x2048x512 ![0, 1, 0] x slices_S4x2051x512_S4x2048x512_0_1_0)
      (lanes (shapeCast S512 (extractStridedSlice S512x1x1 ![0, 0, 1] w slices_S512x1x4_S512x1x1_0_0_1) shapeCasts_S512x1x1_S512))))
    (mulf (extractStridedSlice S4x2048x512 ![0, 2, 0] x slices_S4x2051x512_S4x2048x512_0_2_0)
      (lanes (shapeCast S512 (extractStridedSlice S512x1x1 ![0, 0, 2] w slices_S512x1x4_S512x1x1_0_0_2) shapeCasts_S512x1x1_S512))))
    (mulf (extractStridedSlice S4x2048x512 ![0, 3, 0] x slices_S4x2051x512_S4x2048x512_0_3_0)
      (lanes (shapeCast S512 (extractStridedSlice S512x1x1 ![0, 0, 3] w slices_S512x1x4_S512x1x1_0_0_3) shapeCasts_S512x1x1_S512))))
    (lanes b)

/-- An array times its logistic. -/
def siluR (v : FVec F S4x2048x512 .f32) : FVec F S4x2048x512 .f32 :=
  mulf v (Host.divf (splat 0x3F800000#32) (addf (splat 0x3F800000#32) (Host.exp (Host.negf v))))

/-- The projection of the convolved signal. -/
def projR (u : FVec F S4x2048x512 .f32) (w : FVec F S136x512 .f32) : FVec F S4x2048x136 .f32 :=
  Host.dotGeneral dot_S4x2048x512_S512x136_S4x2048x136_2_0_01_1_n_n none u (transpose S512x136 [1, 0] w transposes_S136x512_S512x136_1_0)

/-- The step size before its softplus. -/
def dtLin (q : FVec F S4x2048x136 .f32) (w : FVec F S512x8 .f32) (b : FVec F S512 .f32) : FVec F S4x2048x512 .f32 :=
  addf (Host.dotGeneral dot_S4x2048x8_S8x512_S4x2048x512_2_0_01_1_n_n none
    (extractStridedSlice S4x2048x8 ![0, 0, 0] q slices_S4x2048x136_S4x2048x8_0_0_0) (transpose S8x512 [1, 0] w transposes_S512x8_S8x512_1_0)) (lanes b)

/-- The softplus of an array. -/
def spR (v : FVec F S4x2048x512 .f32) : FVec F S4x2048x512 .f32 :=
  select (cmpf .une (subf v (splat 0x00000000#32)) (subf v (splat 0x00000000#32))) (addf v (splat 0x00000000#32))
    (addf (maximumf v (splat 0x00000000#32)) (Host.log1p (Host.exp (Host.negf (Host.absf (subf v (splat 0x00000000#32)))))))

/-- The output from the read-out, the convolved signal and the gate. -/
def outR (x : FVec F S4x128x1x2048 .f32) (ys : FVec F S2048x4x512 .f32) (u z : FVec F S4x2048x512 .f32) (d : FVec F S512 .f32) (w : FVec F S128x512 .f32) :
    FVec F S4x128x1x2048 .f32 :=
  addf x (broadcastInDim S4x128x1x2048 ![0, 1, 3] bcast_S4x128x2048_S4x128x1x2048_0_1_3 (transpose S4x128x2048 [0, 2, 1]
    (Host.dotGeneral dot_S4x2048x512_S512x128_S4x2048x128_2_0_01_1_n_n none
      (mulf (addf (transpose S4x2048x512 [1, 0, 2] ys transposes_S2048x4x512_S4x2048x512_1_0_2) (mulf u (lanes d))) (siluR z))
      (transpose S512x128 [1, 0] w transposes_S128x512_S512x128_1_0)) transposes_S4x2048x128_S4x128x2048_0_2_1))

variable (V : Valuation τ sig (Elt F))

/-- The first stretch leaves the half of the input projection that the convolution reads. -/
theorem ops0_v4 : rd (after hostOps0 V) main_v4 = extractStridedSlice S4x2048x512 ![0, 0, 0] (projIn (rd V main_arg0) (rd V main_arg1)) slices_S4x2048x1024_S4x2048x512_0_0_0 := by
  simp only [hostOps0]; after_results; rfl

/-- It leaves the half that gates. -/
theorem ops0_v5 : rd (after hostOps0 V) main_v5 = extractStridedSlice S4x2048x512 ![0, 0, 512] (projIn (rd V main_arg0) (rd V main_arg1)) slices_S4x2048x1024_S4x2048x512_0_0_512 := by
  simp only [hostOps0]; after_results; rfl

/-- It leaves the zero of the padding. -/
theorem ops0_c : rd (after hostOps0 V) main_c = constantI S_ 32 0#32 := by
  simp only [hostOps0]; after_results; exact nullary_result _ _ _ _

/-- The second stretch leaves the signal with three values before its start. -/
theorem ops1_v6 : rd (after hostOps0_1 V) main_v6 = pad S4x2051x512 ![0, 3, 0] ![0, 0, 0] ![0, 0, 0] (rd V main_v4) (sitofp .f32 (rd V main_c)) pads_S4x2048x512_S4x2051x512_000_300_000 h_S_ := by
  simp only [hostOps0_1]; after_results; rfl

/-- The third stretch leaves the convolved signal. -/
theorem ops2_v45 : rd (after hostOps0_2 V) main_v45 = siluR (convR (rd V main_v6) (rd V main_arg2) (rd V main_arg3)) := by
  simp only [hostOps0_2]; after_results_simp; rfl

/-- It leaves the projection onto the state. -/
theorem ops2_v49 : rd (after hostOps0_2 V) main_v49 = extractStridedSlice S4x2048x64 ![0, 0, 8]
    (projR (siluR (convR (rd V main_v6) (rd V main_arg2) (rd V main_arg3))) (rd V main_arg4)) slices_S4x2048x136_S4x2048x64_0_0_8 := by
  simp only [hostOps0_2]; after_results_simp; rfl

/-- It leaves the read-out weights. -/
theorem ops2_v50 : rd (after hostOps0_2 V) main_v50 = extractStridedSlice S4x2048x64 ![0, 0, 72]
    (projR (siluR (convR (rd V main_v6) (rd V main_arg2) (rd V main_arg3))) (rd V main_arg4)) slices_S4x2048x136_S4x2048x64_0_0_72 := by
  simp only [hostOps0_2]; after_results_simp; rfl

/-- It leaves the step size before its softplus. -/
theorem ops2_v55 : rd (after hostOps0_2 V) main_v55 =
    dtLin (projR (siluR (convR (rd V main_v6) (rd V main_arg2) (rd V main_arg3))) (rd V main_arg4)) (rd V main_arg5) (rd V main_arg6) := by
  simp only [hostOps0_2]; after_results_simp; rfl

/-- The fourth stretch leaves the step size. -/
theorem ops3_v56 : rd (after hostOps0_3 V) main_v56 = spR (rd V main_v55) := by
  simp only [hostOps0_3]; after_results_simp; rfl

/-- The fifth stretch leaves the step size by time. -/
theorem ops4_0 : rd (after hostOps0_4 V) main_v65_0 = transpose S2048x4x512 [1, 0, 2] (rd V main_v56) transposes_S4x2048x512_S2048x4x512_1_0_2 := by
  simp only [hostOps0_4]; after_results_simp; rfl

/-- It leaves the projection onto the state by time. -/
theorem ops4_1 : rd (after hostOps0_4 V) main_v65_1 = transpose S2048x4x64 [1, 0, 2] (rd V main_v49) transposes_S4x2048x64_S2048x4x64_1_0_2 := by
  simp only [hostOps0_4]; after_results_simp; rfl

/-- It leaves the read-out weights by time. -/
theorem ops4_2 : rd (after hostOps0_4 V) main_v65_2 = transpose S2048x4x64 [1, 0, 2] (rd V main_v50) transposes_S4x2048x64_S2048x4x64_1_0_2 := by
  simp only [hostOps0_4]; after_results_simp; rfl

/-- It leaves the convolved signal by time. -/
theorem ops4_3 : rd (after hostOps0_4 V) main_v65_3 = transpose S2048x4x512 [1, 0, 2] (rd V main_v45) transposes_S4x2048x512_S2048x4x512_1_0_2 := by
  simp only [hostOps0_4]; after_results_simp; rfl

/-- It leaves the decay rates. -/
theorem ops4_4 : rd (after hostOps0_4 V) main_v65_4 = Host.negf (Host.exp (rd V main_arg7)) := by
  simp only [hostOps0_4]; after_results_simp; rfl

/-- It leaves the zero state. -/
theorem ops4_6 : rd (after hostOps0_4 V) main_v65_6 = broadcastInDim S4x512x64 ![] bcast_S_S4x512x64 (constant S_ .f32 0x00000000#32) := by
  simp only [hostOps0_4]; after_results_simp; rfl

/-- The last stretch leaves the output. -/
theorem ops5_v83 : rd (after hostOps0_5 V) main_v83 = outR (rd V main_arg0) (rd V main_v65_7) (rd V main_v45) (rd V main_v5) (rd V main_arg8) (rd V main_arg9) := by
  simp only [hostOps0_5]; after_results_simp; rfl

end Cert.ReferenceIdeal.Math

end
-- ==== Proof.RMath.lean ====
module

public import proofs.«01_k».proof.Proof.RPre
public import proofs.«01_k».proof.Proof.Args
public import Idealize.ShloMosaic.Lib.MatmulPlain
public import Idealize.ShloMosaic.Lib.KernelVsHost

@[expose] public section

set_option maxRecDepth 8192

/-! # The reference's stretches at an index

Over the extended reals every stretch of the reference, read at an index of one batch, is the plain mathematics of
`Cert.Mamba` at that index. -/

noncomputable section

namespace Cert.ReferenceIdeal.Math

open Idealize.ShloMosaic Idealize.ShloMosaic.TcCoe Idealize.ShloMosaic.StableHlo Idealize.ShloMosaic.ValueIdx Idealize.ShloMosaic.Pipeline
open Cert.ReferenceIdeal Cert.ReferenceIdeal.Gen Cert.ReferenceIdeal.Value
open scoped BigOperators

/-- A product contracted over one axis, read at an index, as a sum over that axis. -/
theorem dotSum {sl sr so : Shape} (K : ℕ) (dd : DotDims sl sr so) (hr : dd.contr.rank = 1) (hs : dd.contr.size ⟨0, by omega⟩ = K)
    (l : FVec Ideal sl .f32) (r : FVec Ideal sr .f32) (j : so.Idx) (il : Fin K → sl.Idx) (ir : Fin K → sr.Idx)
    (hl : ∀ (k : Fin K) (q : dd.contr.Idx), (q ⟨0, by omega⟩).val = k.val → dd.lhsIdx j q = il k)
    (hR : ∀ (k : Fin K) (q : dd.contr.Idx), (q ⟨0, by omega⟩).val = k.val → dd.rhsIdx j q = ir k) :
    Host.dotGeneral dd none l r j = ∑ k : Fin K, l (il k) * r (ir k) := by
  refine (Ideal.dotGeneral_apply dd none _ l r j).trans ?_
  rw [← Equiv.sum_comp (contrEquiv1 dd K hr hs).symm]
  refine Finset.sum_congr rfl fun k _ => ?_
  have e := contrEquiv1_symm_val dd K hr hs k
  rw [hl k _ e, hR k _ e]

/-- A batched matrix times a transposed matrix, read at an index. -/
theorem dot3 {A M K N : ℕ} (wf : DotDims.WF ⟨3, ![A, M, K]⟩ ⟨2, ![K, N]⟩ ⟨3, ![A, M, N]⟩ [2] [0] [0, 1] [1] [] [])
    (l : FVec Ideal ⟨3, ![A, M, K]⟩ .f32) (r : FVec Ideal ⟨2, ![N, K]⟩ .f32) (h : (⟨2, ![N, K]⟩ : Shape).Transposes [1, 0] ⟨2, ![K, N]⟩)
    (b : Fin A) (t : Fin M) (c : Fin N) :
    Host.dotGeneral (so := ⟨3, ![A, M, N]⟩) ⟨[2], [0], [0, 1], [1], [], [], wf⟩ none l (transpose ⟨2, ![K, N]⟩ [1, 0] r h) (ix3 b t c) = ∑ k : Fin K, l (ix3 b t k) * r (ix2 c k) := by
  refine (dotSum K _ rfl rfl l _ (ix3 b t c) (fun k => ix3 b t k) (fun k => ix2 k c) (fun k q hk => ?_) (fun k q hk => ?_)).trans
    (Finset.sum_congr rfl fun k _ => congrArg (l (ix3 b t k) * ·) (transpose_ix2_apply r h k c))
  · funext a
    refine Fin.ext ?_
    match a with
    | ⟨0, _⟩ => rfl
    | ⟨1, _⟩ => rfl
    | ⟨2, _⟩ => exact hk
  · funext a
    refine Fin.ext ?_
    match a with
    | ⟨0, _⟩ => exact hk
    | ⟨1, _⟩ => rfl

/-- A vector over the lanes, read at an index. -/
theorem lanes_apply (v : FVec Ideal S512 .f32) (b : Fin 4) (t : Fin 2048) (d : Fin 512) : lanes v (ix3 b t d) = v (ix1 d) := by
  refine congrArg v (funext fun a => Fin.ext ?_)
  match a with
  | ⟨0, _⟩ => rfl

/-- A swap of the first two axes, read at an index. -/
theorem swap_apply {m a b : ℕ} (x : (⟨3, ![m, a, b]⟩ : Shape).Idx → EReal) (h : (⟨3, ![m, a, b]⟩ : Shape).Transposes [1, 0, 2] ⟨3, ![a, m, b]⟩)
    (k : Fin a) (j : Fin m) (i : Fin b) : transpose ⟨3, ![a, m, b]⟩ [1, 0, 2] x h (ix3 k j i) = x (ix3 j k i) := by
  refine transpose_apply _ x h _ _ fun c => ?_
  match c with
  | ⟨0, _⟩ => rfl
  | ⟨1, _⟩ => rfl
  | ⟨2, _⟩ => rfl

/-- A slice of the last axis, read at an index. -/
theorem slice_last {n0 n1 n2 m : ℕ} (o : ℕ) (x : (⟨3, ![n0, n1, n2]⟩ : Shape).Idx → EReal) (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] x h (ix3 a b j) = x (ix3 a b k) := by
  refine extractStridedSlice_apply _ x h _ _ fun c => ?_
  match c with
  | ⟨0, _⟩ => exact (Nat.zero_add _).symm
  | ⟨1, _⟩ => exact (Nat.zero_add _).symm
  | ⟨2, _⟩ => exact hk

section batch

variable (a0 : FVec Ideal S4x128x1x2048 .f32) (a1 : FVec Ideal S1024x128 .f32) (a2 : FVec Ideal S512x1x4 .f32) (a3 : FVec Ideal S512 .f32)
  (a4 : FVec Ideal S136x512 .f32) (a5 : FVec Ideal S512x8 .f32) (a6 : FVec Ideal S512 .f32) (a7 : FVec Ideal S512x64 .f32)
  (a8 : FVec Ideal S512 .f32) (a9 : FVec Ideal S128x512 .f32) (b : Fin 4)

variable {p : Cert.Mamba.Inp} (hp : p = Cert.Mamba.inpOf a0 a1 a2 a3 a4 a5 a6 a7 a8 a9 b)

/-- The input projection, read at an index. -/
theorem projIn_apply (t : Fin 2048) (j : Fin 1024) : projIn a0 a1 (ix3 b t j) = ∑ c : Fin 128, a0 (ix4 b c 0 t) * a1 (ix2 j c) := by
  refine (dot3 (A := 4) (M := 2048) (K := 128) (N := 1024) _ _ a1 transposes_S1024x128_S128x1024_1_0 b t j).trans
    (Finset.sum_congr rfl fun c _ => congrArg (· * a1 (ix2 j c)) ?_)
  refine (transpose_ix3_021_apply (m := 4) (a := 128) (b := 2048) _ transposes_S4x128x2048_S4x2048x128_0_2_1 b t c).trans ?_
  refine shapeCast_apply a0 shapeCasts_S4x128x1x2048_S4x128x2048 _ _ ?_
  exact (Shape.rowMajor_val_four _).trans (Eq.trans (by show ((b.val * 128 + c.val) * 1 + 0) * 2048 + t.val = (b.val * 128 + c.val) * 2048 + t.val; omega) (Shape.rowMajor_val_three _).symm)

/-- The padded signal: three zeros before the signal. -/
theorem padded_apply (v : FVec Ideal S4x2048x512 .f32) (f : Fin 2048 → Fin 512 → EReal) (hv : ∀ t d, v (ix3 b t d) = f t d)
    (o : ℕ) (ho : o ≤ 3) (h : S4x2051x512.Slices ![0, o, 0] S4x2048x512) (t : Fin 2048) (d : Fin 512) :
    extractStridedSlice S4x2048x512 ![0, o, 0] (pad S4x2051x512 ![0, 3, 0] ![0, 0, 0] ![0, 0, 0] v (sitofp .f32 (constantI S_ 32 0#32))
      pads_S4x2048x512_S4x2051x512_000_300_000 h_S_) h (ix3 b t d) = Cert.Mamba.late f (3 - o) t d := by
  refine (slice3_axis1_apply (n0 := 4) (n1 := 2051) (n2 := 512) (m := 2048) o _ h b t d ⟨o + t.val, by omega⟩ rfl).trans ?_
  unfold Cert.Mamba.late
  by_cases hin : 3 - o ≤ t.val
  · rw [dif_pos hin]
    refine Eq.trans (pad_apply_of_inside _ _ _ v _ _ _ _ (ix3 b ⟨t.val - (3 - o), by omega⟩ d) fun a => ?_) (hv _ _)
    match a with
    | ⟨0, _⟩ => show b.val = 0 + b.val * 1; omega
    | ⟨1, _⟩ => show o + t.val = 3 + (t.val - (3 - o)) * 1; omega
    | ⟨2, _⟩ => show d.val = 0 + d.val * 1; omega
  · rw [dif_neg hin]
    refine Eq.trans (pad_apply_of_not_inside _ _ _ v _ _ _ _ 1 fun hh => ?_) ?_
    · have h1 : 3 ≤ o + t.val := hh.1
      omega
    · show (((0#32 : BitVec 32).toInt : ℝ) : EReal) = 0
      simp

/-- A tap over the lanes, read at an index. -/
theorem tap_apply (k : Fin 4) (h : S512x1x4.Slices ![0, 0, k.val] S512x1x1) (t : Fin 2048) (d : Fin 512) :
    lanes (shapeCast S512 (extractStridedSlice S512x1x1 ![0, 0, k.val] a2 h) shapeCasts_S512x1x1_S512) (ix3 b t d) = a2 (ix3 d 0 k) := by
  refine (lanes_apply _ b t d).trans ?_
  refine (shapeCast_apply _ shapeCasts_S512x1x1_S512 (ix1 d) (ix3 d 0 0) ?_).trans ?_
  · exact (Shape.rowMajor_val_three _).trans (Eq.trans (by show (d.val * 1 + 0) * 1 + 0 = d.val; omega) (Shape.rowMajor_val_one _).symm)
  · exact slice_last (n0 := 512) (n1 := 1) (n2 := 4) (m := 1) k.val a2 h d 0 0 k rfl

/-- The four taps and the bias, in the order in which the reference adds them. -/
theorem conv_order (x0 x1 x2 x3 w0 w1 w2 w3 c : EReal) :
    ((((0 + x3 * w0) + x2 * w1) + x1 * w2) + x0 * w3) + c = (((x0 * w3 + x1 * w2) + x2 * w1) + x3 * w0) + c := by
  rw [zero_add]
  ac_rfl

include hp

/-- The half of the projection that the convolution reads. -/
theorem v4_apply (t : Fin 2048) (d : Fin 512) :
    extractStridedSlice S4x2048x512 ![0, 0, 0] (projIn a0 a1) slices_S4x2048x1024_S4x2048x512_0_0_0 (ix3 b t d) = Cert.Mamba.xi p t d := by
  subst hp
  exact (slice_last (n0 := 4) (n1 := 2048) (n2 := 1024) (m := 512) 0 _ slices_S4x2048x1024_S4x2048x512_0_0_0 b t d ⟨d.val, by omega⟩ (Nat.zero_add _).symm).trans
    (projIn_apply a0 a1 b t _)

/-- The half of the projection that gates. -/
theorem v5_apply (t : Fin 2048) (d : Fin 512) :
    extractStridedSlice S4x2048x512 ![0, 0, 512] (projIn a0 a1) slices_S4x2048x1024_S4x2048x512_0_0_512 (ix3 b t d) = Cert.Mamba.z p t d := by
  subst hp
  exact (slice_last (n0 := 4) (n1 := 2048) (n2 := 1024) (m := 512) 512 _ slices_S4x2048x1024_S4x2048x512_0_0_512 b t d ⟨512 + d.val, by omega⟩ rfl).trans
    (projIn_apply a0 a1 b t _)

/-- The convolution, read at an index. -/
theorem convR_apply (v : FVec Ideal S4x2048x512 .f32) (hv : ∀ t d, v (ix3 b t d) = Cert.Mamba.xi p t d) (t : Fin 2048) (d : Fin 512) :
    convR (pad S4x2051x512 ![0, 3, 0] ![0, 0, 0] ![0, 0, 0] v (sitofp .f32 (constantI S_ 32 0#32)) pads_S4x2048x512_S4x2051x512_000_300_000 h_S_) a2 a3 (ix3 b t d)
      = Cert.Mamba.conv p t d := by
  have l0 := padded_apply b v _ hv 0 (by omega) slices_S4x2051x512_S4x2048x512_0_0_0 t d
  have l1 := padded_apply b v _ hv 1 (by omega) slices_S4x2051x512_S4x2048x512_0_1_0 t d
  have l2 := padded_apply b v _ hv 2 (by omega) slices_S4x2051x512_S4x2048x512_0_2_0 t d
  have l3 := padded_apply b v _ hv 3 (by omega) slices_S4x2051x512_S4x2048x512_0_3_0 t d
  have t0 := tap_apply a2 b 0 slices_S512x1x4_S512x1x1_0_0_0 t d
  have t1 := tap_apply a2 b 1 slices_S512x1x4_S512x1x1_0_0_1 t d
  have t2 := tap_apply a2 b 2 slices_S512x1x4_S512x1x1_0_0_2 t d
  have t3 := tap_apply a2 b 3 slices_S512x1x4_S512x1x1_0_0_3 t d
  have e : ∀ z x0 x1 x2 x3 w0 w1 w2 w3 c : EReal, z = 0 → x3 = Cert.Mamba.late (Cert.Mamba.xi p) 3 t d → x2 = Cert.Mamba.late (Cert.Mamba.xi p) 2 t d →
      x1 = Cert.Mamba.late (Cert.Mamba.xi p) 1 t d → x0 = Cert.Mamba.late (Cert.Mamba.xi p) 0 t d → w0 = p.cw d 0 → w1 = p.cw d 1 → w2 = p.cw d 2 →
      w3 = p.cw d 3 → c = p.cb d → ((((z + x3 * w0) + x2 * w1) + x1 * w2) + x0 * w3) + c = Cert.Mamba.conv p t d := by
    rintro _ _ _ _ _ _ _ _ _ _ rfl rfl rfl rfl rfl rfl rfl rfl rfl rfl
    exact conv_order _ _ _ _ _ _ _ _ _
  subst hp
  exact e _ _ _ _ _ _ _ _ _ _ Ideal.ofBits_zero_f32 l0 l1 l2 l3 t0 t1 t2 t3 (lanes_apply a3 b t d)

omit hp in
/-- The `silu` of an array, read at an index. -/
theorem siluR_apply (v : FVec Ideal S4x2048x512 .f32) (i : S4x2048x512.Idx) : siluR v i = Cert.Mamba.silu (v i) := by
  show v i * Ideal.div (Ideal.ofBits .f32 0x3F800000#32) (Ideal.ofBits .f32 0x3F800000#32 + Ideal.exp (-(v i))) = _
  rw [Ideal.ofBits_one_f32]
  rfl

/-- The projection of the convolved signal, read at an index. -/
theorem projR_apply (u : FVec Ideal S4x2048x512 .f32) (hu : ∀ t d, u (ix3 b t d) = Cert.Mamba.u p t d) (t : Fin 2048) (j : Fin 136) :
    projR u a4 (ix3 b t j) = Cert.Mamba.proj p t j := by
  refine (dot3 (A := 4) (M := 2048) (K := 512) (N := 136) _ u a4 transposes_S136x512_S512x136_1_0 b t j).trans
    (Finset.sum_congr rfl fun d _ => ?_)
  rw [hu, hp]
  rfl

/-- The step size before its softplus, read at an index. -/
theorem dtLin_apply (q : FVec Ideal S4x2048x136 .f32) (hq : ∀ t j, q (ix3 b t j) = Cert.Mamba.proj p t j) (t : Fin 2048) (d : Fin 512) :
    dtLin q a5 a6 (ix3 b t d) = (∑ r : Fin 8, Cert.Mamba.proj p t ⟨r.val, by omega⟩ * p.wdt d r) + p.bdt d := by
  have e : Host.dotGeneral dot_S4x2048x8_S8x512_S4x2048x512_2_0_01_1_n_n none
      (extractStridedSlice S4x2048x8 ![0, 0, 0] q slices_S4x2048x136_S4x2048x8_0_0_0) (transpose S8x512 [1, 0] a5 transposes_S512x8_S8x512_1_0) (ix3 b t d)
      = ∑ r : Fin 8, Cert.Mamba.proj p t ⟨r.val, by omega⟩ * p.wdt d r := by
    refine (dot3 (A := 4) (M := 2048) (K := 8) (N := 512) _ _ a5 transposes_S512x8_S8x512_1_0 b t d).trans (Finset.sum_congr rfl fun r _ => ?_)
    have e' := (slice_last (n0 := 4) (n1 := 2048) (n2 := 136) (m := 8) 0 q slices_S4x2048x136_S4x2048x8_0_0_0 b t r ⟨r.val, by omega⟩ (Nat.zero_add _).symm).trans (hq _ _)
    refine congrArg₂ (· * ·) e' ?_
    rw [hp]
    rfl
  have e2 : p.bdt d = a6 (ix1 d) := by rw [hp]; rfl
  exact congrArg₂ (· + ·) e ((lanes_apply a6 b t d).trans e2.symm)

omit hp in
/-- The softplus of an array, read at an index. -/
theorem spR_apply (v : FVec Ideal S4x2048x512 .f32) (i : S4x2048x512.Idx) : spR v i = Cert.Mamba.softplus (v i) := by
  show (if BitVec.ofBool (decide (v i - Ideal.ofBits .f32 0x00000000#32 ≠ v i - Ideal.ofBits .f32 0x00000000#32)) = 1#1 then v i + Ideal.ofBits .f32 0x00000000#32
    else max (v i) (Ideal.ofBits .f32 0x00000000#32) + Ideal.log1p (Ideal.exp
      (-(max (v i - Ideal.ofBits .f32 0x00000000#32) (-(v i - Ideal.ofBits .f32 0x00000000#32)))))) = _
  rw [Ideal.ofBits_zero_f32, if_neg (by simp), sub_zero]
  rfl

/-- The output, read at an index. -/
theorem outR_apply (ys : FVec Ideal S2048x4x512 .f32) (u z : FVec Ideal S4x2048x512 .f32) (hy : ∀ t d, ys (ix3 t b d) = Cert.Mamba.y p t d)
    (hu : ∀ t d, u (ix3 b t d) = Cert.Mamba.u p t d) (hz : ∀ t d, z (ix3 b t d) = Cert.Mamba.z p t d) (c : Fin 128) (t : Fin 2048) :
    outR a0 ys u z a8 a9 (ix4 b c 0 t) = Cert.Mamba.out p t c := by
  have e1 : p.x t c = a0 (ix4 b c 0 t) := by rw [hp]; rfl
  refine congrArg₂ (· + ·) e1.symm ?_
  refine Eq.trans (congrArg (transpose S4x128x2048 [0, 2, 1] _ transposes_S4x2048x128_S4x128x2048_0_2_1) (a₂ := ix3 b c t) ?_) ?_
  · funext a
    refine Fin.ext ?_
    match a with
    | ⟨0, _⟩ => rfl
    | ⟨1, _⟩ => rfl
    | ⟨2, _⟩ => rfl
  refine (transpose_ix3_021_apply (m := 4) (a := 2048) (b := 128) _ transposes_S4x2048x128_S4x128x2048_0_2_1 b c t).trans ?_
  refine (dot3 (A := 4) (M := 2048) (K := 512) (N := 128) _ _ a9 transposes_S128x512_S512x128_1_0 b t c).trans (Finset.sum_congr rfl fun d _ => ?_)
  have e2 : p.wo c d = a9 (ix2 c d) := by rw [hp]; rfl
  have e3 : p.dd d = a8 (ix1 d) := by rw [hp]; rfl
  refine congrArg₂ (· * ·) (congrArg₂ (· * ·) (congrArg₂ (· + ·) ?_ (congrArg₂ (· * ·) (hu t d) ((lanes_apply a8 b t d).trans e3.symm))) ?_) e2.symm
  · exact (swap_apply (m := 2048) (a := 4) (b := 512) ys transposes_S2048x4x512_S4x2048x512_1_0_2 b t d).trans (hy t d)
  · exact (siluR_apply z _).trans (congrArg Cert.Mamba.silu (hz t d))

end batch

end Cert.ReferenceIdeal.Math

end
-- ==== Proof.RStep.lean ====
module

public import proofs.«01_k».proof.Proof.RMath
public import Idealize.ShloMosaic.Lib.DynamicIndex
public import Idealize.ShloMosaic.Lib.Pointwise.ShapeOpsCore

@[expose] public section

set_option maxRecDepth 8192

/-! # One step of the reference's loop at an index

One trip of the reference's loop over time advances the state of every batch by one step of `Cert.Mamba.h` and writes the
step's read-out `Cert.Mamba.y` into its row of the result. -/

noncomputable section

namespace Cert.ReferenceIdeal.Math

open Idealize.ShloMosaic hiding ix1 ix2 ix3 ix4
open Idealize.ShloMosaic.TcCoe Idealize.ShloMosaic.StableHlo Idealize.ShloMosaic.ValueIdx Idealize.ShloMosaic.Pipeline
open Cert.ReferenceIdeal Cert.ReferenceIdeal.Gen Cert.ReferenceIdeal.Value
open scoped BigOperators

/-- A row read at a traced position, at an index. -/
theorem row_apply {N A B : ℕ} (x : (⟨3, ![N, A, B]⟩ : Shape).Idx → EReal) (st : Fin 3 → Int) (h : (⟨3, ![N, A, B]⟩ : Shape).Slices (fun _ => 0) ⟨3, ![1, A, B]⟩)
    (hc : (⟨3, ![1, A, B]⟩ : Shape).ShapeCasts ⟨2, ![A, B]⟩) (k : Fin N) (h0 : st 0 = (k.val : Int)) (h1 : st 1 = 0) (h2 : st 2 = 0) (a : Fin A) (b : Fin B) :
    shapeCast ⟨2, ![A, B]⟩ (Host.dynamicSlice ⟨3, ![1, A, B]⟩ x st h) hc (ix2 a b) = x (ix3 k a b) := by
  have hk := k.isLt
  have hoff : (⟨3, ![N, A, B]⟩ : Shape).Slices ![k.val, 0, 0] ⟨3, ![1, A, B]⟩ := by
    refine ⟨rfl, fun c => ?_⟩
    match c with
    | ⟨0, _⟩ => show k.val + 1 ≤ N; omega
    | ⟨1, _⟩ => show 0 + A ≤ A; omega
    | ⟨2, _⟩ => show 0 + B ≤ B; omega
  refine (shapeCast_1ab_ab_apply _ hc a b).trans ?_
  rw [Host.dynamicSlice_eq_extractStridedSlice _ x st ![k.val, 0, 0] h hoff fun c => ?_]
  · refine extractStridedSlice_apply _ x hoff _ _ fun c => ?_
    match c with
    | ⟨0, _⟩ => show k.val = k.val + 0; omega
    | ⟨1, _⟩ => show a.val = 0 + a.val; omega
    | ⟨2, _⟩ => show b.val = 0 + b.val; omega
  · match c with
    | ⟨0, _⟩ => exact h0
    | ⟨1, _⟩ => exact h1
    | ⟨2, _⟩ => exact h2

/-- A row written at a traced position, at an index. -/
theorem put_apply {N A B : ℕ} (x : (⟨3, ![N, A, B]⟩ : Shape).Idx → EReal) (y : (⟨3, ![1, A, B]⟩ : Shape).Idx → EReal) (st : Fin 3 → Int)
    (h : (⟨3, ![N, A, B]⟩ : Shape).Slices (fun _ => 0) ⟨3, ![1, A, B]⟩) (k : Fin N) (h0 : st 0 = (k.val : Int)) (h1 : st 1 = 0) (h2 : st 2 = 0)
    (t : Fin N) (a : Fin A) (b : Fin B) :
    Host.dynamicUpdateSlice x y st h (ix3 t a b) = if t = k then y (ix3 0 a b) else x (ix3 t a b) := by
  have hk := k.isLt
  have h' : (⟨3, ![N, A, B]⟩ : Shape).Slices ![k.val, 0, 0] ⟨3, ![1, A, B]⟩ := by
    refine ⟨rfl, fun c => ?_⟩
    match c with
    | ⟨0, _⟩ => show k.val + 1 ≤ N; omega
    | ⟨1, _⟩ => show 0 + A ≤ A; omega
    | ⟨2, _⟩ => show 0 + B ≤ B; omega
  rw [Host.dynamicUpdateSlice_eq_updateSlice x y st h ![k.val, 0, 0] (fun c => ?_) h', updateSlice_apply]
  · by_cases e : t = k
    · subst e
      rw [if_pos rfl, dif_pos (fun c => ?_)]
      · refine congrArg y (funext fun c => Fin.ext ?_)
        match c with
        | ⟨0, _⟩ => show t.val - t.val = 0; omega
        | ⟨1, _⟩ => rfl
        | ⟨2, _⟩ => rfl
      · match c with
        | ⟨0, _⟩ => show t.val ≤ t.val ∧ t.val < t.val + 1; omega
        | ⟨1, _⟩ => show 0 ≤ a.val ∧ a.val < 0 + A; omega
        | ⟨2, _⟩ => show 0 ≤ b.val ∧ b.val < 0 + B; omega
    · rw [if_neg e, dif_neg fun hh => e (Fin.ext ?_)]
      have h3 : k.val ≤ t.val ∧ t.val < k.val + 1 := hh 0
      omega
  · match c with
    | ⟨0, _⟩ => show (min (max (st 0) 0) ((N - 1 : ℕ) : Int)).toNat = k.val; rw [h0]; omega
    | ⟨1, _⟩ => show (min (max (st 1) 0) ((A - A : ℕ) : Int)).toNat = 0; rw [h1]; omega
    | ⟨2, _⟩ => show (min (max (st 2) 0) ((B - B : ℕ) : Int)).toNat = 0; rw [h2]; omega

/-- The carried arrays that the loop only reads hold one batch's step size, projections, convolved signal and decay rates. -/
structure Reads (p : Cert.Mamba.Inp) (b : Fin 4) (V : Valuation τ sig (Elt Ideal)) : Prop where
  /-- the step size -/
  dt (t : Fin 2048) (d : Fin 512) : (rd V main_v65_0 : FVec Ideal S2048x4x512 .f32) (ix3 t b d) = Cert.Mamba.dt p t d
  /-- the projection onto the state -/
  bb (t : Fin 2048) (n : Fin 64) : (rd V main_v65_1 : FVec Ideal S2048x4x64 .f32) (ix3 t b n) = Cert.Mamba.proj p t ⟨8 + n.val, by omega⟩
  /-- the read-out weights -/
  cc (t : Fin 2048) (n : Fin 64) : (rd V main_v65_2 : FVec Ideal S2048x4x64 .f32) (ix3 t b n) = Cert.Mamba.proj p t ⟨72 + n.val, by omega⟩
  /-- the convolved signal -/
  uu (t : Fin 2048) (d : Fin 512) : (rd V main_v65_3 : FVec Ideal S2048x4x512 .f32) (ix3 t b d) = Cert.Mamba.u p t d
  /-- the decay rates -/
  aa (d : Fin 512) (n : Fin 64) : (rd V main_v65_4 : FVec Ideal S512x64 .f32) (ix2 d n) = -(Ideal.exp (p.al d n))

section step

variable {p : Cert.Mamba.Inp} {b : Fin 4} {V : Valuation τ sig (Elt Ideal)} (R : Reads p b V) (k : ℕ) (hk : k < 2048)
  (hctr : V (Proc.devRef .tc main_v65_5) = fun _ => Scf.iv 0#32 1#32 k)

/-- The trip counter as an integer. -/
theorem ctr_toInt (k : ℕ) (hk : k < 2048) : (Scf.iv (0#32 : BitVec 32) 1#32 k).toInt = (k : Int) := by
  have hok : Scf.OK (0#32 : BitVec 32) 2048#32 1#32 := by decide +kernel
  have htr : Scf.trips (0#32 : BitVec 32) 2048#32 1#32 = 2048 := by decide +kernel
  rw [Scf.toInt_iv hok (by omega)]
  show (0 : Int) + k * 1 = k
  omega

/-- Where the trip's rows start. -/
abbrev starts (V : Valuation τ sig (Elt Ideal)) : Fin 3 → Int := fun k =>
  (((![V (Proc.devRef .tc main_v65_5), constantI S_ 32 0#32, constantI S_ 32 0#32] : Fin 3 → (⟨S_, .i32⟩ : BufTy).Contents (Elt Ideal))) k (Shape.Idx.first h_S_)).toInt

include hctr hk in
/-- The rows start at the trip's own. -/
theorem starts_zero : starts V 0 = ((⟨k, hk⟩ : Fin 2048).val : Int) := by
  refine Eq.trans (congrArg BitVec.toInt (congrFun hctr _)) (ctr_toInt k hk)

include R hk hctr

/-- The step size's row, read at an index. -/
theorem v84_apply (d : Fin 512) : res_main_while0b_v84 V (ix2 b d) = Cert.Mamba.dt p ⟨k, hk⟩ d :=
  (row_apply (N := 2048) (A := 4) (B := 512) (V (Proc.devRef .tc main_v65_0)) (starts V) sliceFits_S2048x4x512_S1x4x512 shapeCasts_S1x4x512_S4x512 ⟨k, hk⟩
    (starts_zero k hk hctr) rfl rfl b d).trans (R.dt _ _)

/-- The next state, read at an index. -/
theorem v101_apply (hh : ∀ d n, (rd V main_v65_6 : FVec Ideal S4x512x64 .f32) (ix3 b d n) = Cert.Mamba.h p k n d) (d : Fin 512) (n : Fin 64) :
    res_main_while0b_v101 V (ix3 b d n) = Cert.Mamba.h p (k + 1) n d := by
  have e1 := v84_apply R k hk hctr d
  have e2 := (row_apply (N := 2048) (A := 4) (B := 512) (V (Proc.devRef .tc main_v65_3)) (starts V) sliceFits_S2048x4x512_S1x4x512 shapeCasts_S1x4x512_S4x512 ⟨k, hk⟩
    (starts_zero k hk hctr) rfl rfl b d).trans (R.uu _ _)
  have e3 := (row_apply (N := 2048) (A := 4) (B := 64) (V (Proc.devRef .tc main_v65_1)) (starts V) sliceFits_S2048x4x64_S1x4x64 shapeCasts_S1x4x64_S4x64 ⟨k, hk⟩
    (starts_zero k hk hctr) rfl rfl b n).trans (R.bb _ _)
  have e4 := R.aa d n
  have e5 := hh d n
  have g1 : broadcastInDim S4x512x64 ![0, 1, 2] bcast_S4x512x1_S4x512x64_0_1_2 (broadcastInDim S4x512x1 ![0, 1] bcast_S4x512_S4x512x1_0_1 (res_main_while0b_v84 V)) (ix3 b d n)
      = res_main_while0b_v84 V (ix2 b d) := congrArg (res_main_while0b_v84 V) (funext fun a => Fin.ext (match a with | ⟨0, _⟩ => rfl | ⟨1, _⟩ => rfl))
  have g4 : broadcastInDim S4x512x64 ![0, 1, 2] bcast_S1x512x64_S4x512x64_0_1_2 (broadcastInDim S1x512x64 ![1, 2] bcast_S512x64_S1x512x64_1_2 (rd V main_v65_4)) (ix3 b d n)
      = rd V main_v65_4 (ix2 d n) := congrArg (rd V main_v65_4) (funext fun a => Fin.ext (match a with | ⟨0, _⟩ => rfl | ⟨1, _⟩ => rfl))
  have g2 : ∀ v : FVec Ideal S4x512 .f32, broadcastInDim S4x512x64 ![0, 1, 2] bcast_S4x512x1_S4x512x64_0_1_2 (broadcastInDim S4x512x1 ![0, 1] bcast_S4x512_S4x512x1_0_1 v) (ix3 b d n)
      = v (ix2 b d) := fun v => congrArg v (funext fun a => Fin.ext (match a with | ⟨0, _⟩ => rfl | ⟨1, _⟩ => rfl))
  have g3 : ∀ v : FVec Ideal S4x64 .f32, broadcastInDim S4x512x64 ![0, 1, 2] bcast_S4x1x64_S4x512x64_0_1_2 (broadcastInDim S4x1x64 ![0, 2] bcast_S4x64_S4x1x64_0_2 v) (ix3 b d n)
      = v (ix2 b n) := fun v => congrArg v (funext fun a => Fin.ext (match a with | ⟨0, _⟩ => rfl | ⟨1, _⟩ => rfl))
  rw [Cert.Mamba.h_succ p k hk n d, mul_comm (Cert.Mamba.proj p _ _)]
  unfold res_main_while0b_v101
  refine congrArg₂ (· + ·) (congrArg₂ (· * ·) (congrArg Ideal.exp (congrArg₂ (· * ·) (g1.trans e1) (g4.trans e4))) e5) (congrArg₂ (· * ·) ?_ ?_)
  · exact (g2 _).trans (congrArg₂ (· * ·) e1 e2)
  · exact (g3 _).trans e3

/-- The result after the trip: the trip's row holds its read-out, the others are as they were. -/
theorem step7_apply (hh : ∀ d n, (rd V main_v65_6 : FVec Ideal S4x512x64 .f32) (ix3 b d n) = Cert.Mamba.h p k n d) (t : Fin 2048) (d : Fin 512) :
    (step_main_v65_7 V : FVec Ideal S2048x4x512 .f32) (ix3 t b d)
      = if t = ⟨k, hk⟩ then Cert.Mamba.y p ⟨k, hk⟩ d else (rd V main_v65_7 : FVec Ideal S2048x4x512 .f32) (ix3 t b d) := by
  unfold step_main_v65_7
  refine (put_apply (N := 2048) (A := 4) (B := 512) _ _ (starts V) updateFits_S2048x4x512_S1x4x512 ⟨k, hk⟩ (starts_zero k hk hctr) rfl rfl t b d).trans ?_
  refine if_congr Iff.rfl ?_ rfl
  have g : ∀ v : FVec Ideal S4x512 .f32, broadcastInDim S1x4x512 ![1, 2] bcast_S4x512_S1x4x512_1_2 v (ix3 0 b d) = v (ix2 b d) :=
    fun v => congrArg v (funext fun a => Fin.ext (match a with | ⟨0, _⟩ => rfl | ⟨1, _⟩ => rfl))
  refine (g _).trans ?_
  refine (dotSum 64 dot_S4x512x64_S4x64_S4x512_2_1_1_n_0_0 rfl rfl _ _ (ix2 b d) (fun n => ix3 b d n) (fun n => ix2 b n) (fun n q hq => ?_) (fun n q hq => ?_)).trans
    (Finset.sum_congr rfl fun n _ => congrArg₂ (· * ·) (v101_apply R k hk hctr hh d n) ?_)
  · refine funext fun a => Fin.ext ?_
    match a with
    | ⟨0, _⟩ => rfl
    | ⟨1, _⟩ => rfl
    | ⟨2, _⟩ => exact hq
  · refine funext fun a => Fin.ext ?_
    match a with
    | ⟨0, _⟩ => rfl
    | ⟨1, _⟩ => exact hq
  · exact (row_apply (N := 2048) (A := 4) (B := 64) (V (Proc.devRef .tc main_v65_2)) (starts V) sliceFits_S2048x4x64_S1x4x64 shapeCasts_S1x4x64_S4x64 ⟨k, hk⟩
      (starts_zero k hk hctr) rfl rfl b n).trans (R.cc _ _)

end step

end Cert.ReferenceIdeal.Math

end
-- ==== Proof.RLoop.lean ====
module

public import proofs.«01_k».proof.Proof.RStep

@[expose] public section

set_option maxRecDepth 8192

/-! # The reference's run

The reference's buffers through its stretches and its loop: what the loop starts from, what it carries before each step, and
what the whole run leaves in the result and in the arguments. -/

noncomputable section

namespace Cert.ReferenceIdeal.Math

open Idealize.ShloMosaic hiding ix1 ix2 ix3 ix4
open Idealize.ShloMosaic.TcCoe Idealize.ShloMosaic.StableHlo Idealize.ShloMosaic.ValueIdx Idealize.ShloMosaic.Pipeline Idealize.SL.Sem
open Cert.ReferenceIdeal Cert.ReferenceIdeal.Gen Cert.ReferenceIdeal.Value
open scoped BigOperators

section keep

variable {F : FTy → Type} [FloatOps F] (m : (ℓ : Loc nD τ sig) → Buf (Elt F) ℓ) (ρ : Dev nD → PrngReg) (c : Dev nD)

/-- The buffers that the stretch after the loop writes. -/
abbrev postW : List (Ref sig .tc) := [main_v66, main_v67, main_v68, main_v69, main_v70, main_v71, main_v72, main_cst_5, main_v73, main_v74, main_cst_6,
  main_v75, main_v76, main_v77, main_v78, main_v79, main_v80, main_v81, main_v82, main_v83]

/-- The stretch after the loop writes those buffers and no others. -/
theorem post_writes : (hostOps0_5 : List (HloOp τ sig (Elt F))).Forall fun op => op.writes ⊆ (postW.map (Proc.devRef (τ := τ) .tc)).toFinset :=
  StableHlo.forall_writes_sub_of_map rfl

/-- The loop writes no buffer outside its stretches' own. -/
def LoopKeeps (b : Ref sig .tc) : Prop := b ∉ condOps_W ∧ b ∉ while0Ops0_W ∧ b ∉ while0Ops0_1_W ∧ b ∉ while0Ops0_2_W ∧ b ∉ while0Ops0_3_W
  ∧ b ∉ while0Ops0_4_W ∧ b ∉ while0Ops0_5_W ∧ b ∉ while0Ops0_6_W

instance (b : Ref sig .tc) : Decidable (LoopKeeps b) := inferInstanceAs (Decidable (_ ∧ _))

/-- A buffer that no stretch of the loop writes is before every trip as the loop found it. -/
theorem loop_keep {b : Ref sig .tc} (h : LoopKeeps b) : ∀ k, rd (atK m k c) b = rd (entryContents preI m c) b
  | 0 => rfl
  | k + 1 => by
    obtain ⟨hc, h0, h1, h2, h3, h4, h5, h6⟩ := h
    refine Eq.trans ?_ (loop_keep ⟨hc, h0, h1, h2, h3, h4, h5, h6⟩ k)
    exact (after_of_writes_sub while0Ops0_6 _ while0Ops0_6_writes h6).trans ((after_of_writes_sub while0Ops0_5 _ while0Ops0_5_writes h5).trans
      ((after_of_writes_sub while0Ops0_4 _ while0Ops0_4_writes h4).trans ((after_of_writes_sub while0Ops0_3 _ while0Ops0_3_writes h3).trans
      ((after_of_writes_sub while0Ops0_2 _ while0Ops0_2_writes h2).trans ((after_of_writes_sub while0Ops0_1 _ while0Ops0_1_writes h1).trans
      ((after_of_writes_sub while0Ops0 _ while0Ops0_writes h0).trans (after_of_writes_sub condOps _ condOps_writes hc)))))))

/-- The buffers after each stretch before the loop. -/
abbrev W0 : Valuation τ sig (Elt F) := after hostOps0 (launchContents m c)
/-- After the second stretch. -/
abbrev W1 : Valuation τ sig (Elt F) := after hostOps0_1 (W0 m c)
/-- After the third stretch. -/
abbrev W2 : Valuation τ sig (Elt F) := after hostOps0_2 (W1 m c)
/-- After the fourth stretch. -/
abbrev W3 : Valuation τ sig (Elt F) := after hostOps0_3 (W2 m c)
/-- After the fifth stretch: what the loop starts from. -/
abbrev W4 : Valuation τ sig (Elt F) := after hostOps0_4 (W3 m c)

/-- The first stretch keeps what it does not write. -/
theorem keep0 {b : Ref sig .tc} (h : b ∉ hostOps0_W) : rd (W0 m c) b = m (c, Proc.devRef .tc b) := after_of_writes_sub hostOps0 _ hostOps0_writes h
/-- The second stretch keeps what it does not write. -/
theorem keep1 {b : Ref sig .tc} (h : b ∉ hostOps0_1_W) : rd (W1 m c) b = rd (W0 m c) b := after_of_writes_sub hostOps0_1 _ hostOps0_1_writes h
/-- The third stretch keeps what it does not write. -/
theorem keep2 {b : Ref sig .tc} (h : b ∉ hostOps0_2_W) : rd (W2 m c) b = rd (W1 m c) b := after_of_writes_sub hostOps0_2 _ hostOps0_2_writes h
/-- The fourth stretch keeps what it does not write. -/
theorem keep3 {b : Ref sig .tc} (h : b ∉ hostOps0_3_W) : rd (W3 m c) b = rd (W2 m c) b := after_of_writes_sub hostOps0_3 _ hostOps0_3_writes h
/-- The fifth stretch keeps what it does not write. -/
theorem keep4 {b : Ref sig .tc} (h : b ∉ hostOps0_4_W) : rd (W4 m c) b = rd (W3 m c) b := after_of_writes_sub hostOps0_4 _ hostOps0_4_writes h

/-- Before the last stretch, the buffers of the loop's end. -/
abbrev WL : Valuation τ sig (Elt F) := after condOps (atK m 2048 c)

/-- The loop keeps what it does not write. -/
theorem keepL {b : Ref sig .tc} (h : LoopKeeps b) : rd (WL m c) b = rd (W4 m c) b :=
  (after_of_writes_sub condOps _ condOps_writes h.1).trans (loop_keep m c h 2048)

/-- A buffer that no stretch before the loop writes. -/
def PreKeeps (b : Ref sig .tc) : Prop := b ∉ hostOps0_W ∧ b ∉ hostOps0_1_W ∧ b ∉ hostOps0_2_W ∧ b ∉ hostOps0_3_W ∧ b ∉ hostOps0_4_W

instance (b : Ref sig .tc) : Decidable (PreKeeps b) := inferInstanceAs (Decidable (_ ∧ _))

/-- A buffer that nothing before the last stretch writes is there as launched. -/
theorem keep_all {b : Ref sig .tc} (h : PreKeeps b) (hl : LoopKeeps b) : rd (WL m c) b = m (c, Proc.devRef .tc b) :=
  (keepL m c hl).trans ((keep4 m c h.2.2.2.2).trans ((keep3 m c h.2.2.2.1).trans ((keep2 m c h.2.2.1).trans ((keep1 m c h.2.1).trans (keep0 m c h.1)))))

/-- A buffer that nothing writes is at the end as launched. -/
theorem keep_end {b : Ref sig .tc} (h : PreKeeps b) (hl : LoopKeeps b) (hp : b ∉ postW) :
    finalContents condOps preI bodyI postI 2048 m c (Proc.devRef .tc b) = m (c, Proc.devRef .tc b) :=
  (after_of_writes_sub hostOps0_5 _ post_writes hp).trans (keep_all m c h hl)

/-- The arguments in `mem` are as launched. -/
def Kept (mem : (ℓ : Loc nD τ sig) → Buf (Elt F) ℓ) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)

/-- The whole run: the result at the fold's value, the arguments as launched, every counter at zero. -/
theorem run_fin : θ_run (defs (F := F)) (onTc (τ := τ) (main (F := F))) ⟨m, fun _ => 0, ρ⟩
    (fun r => (∀ c : Dev nD, r.2.mem ((c.tc : Thread nD τ).loc main_v83) = finalContents condOps preI bodyI postI 2048 m c (Proc.devRef .tc main_v83)
      ∧ Kept m c r.2.mem) ∧ r.2.sem = fun _ => 0) :=
  (θ_run defs _ _).mono (fun r h => ⟨fun c => ⟨h c main_v83 rfl,
    (h c main_arg0 rfl).trans (keep_end m c (by decide +kernel) (by decide +kernel) (by decide +kernel)),
    (h c main_arg1 rfl).trans (keep_end m c (by decide +kernel) (by decide +kernel) (by decide +kernel)),
    (h c main_arg2 rfl).trans (keep_end m c (by decide +kernel) (by decide +kernel) (by decide +kernel)),
    (h c main_arg3 rfl).trans (keep_end m c (by decide +kernel) (by decide +kernel) (by decide +kernel)),
    (h c main_arg4 rfl).trans (keep_end m c (by decide +kernel) (by decide +kernel) (by decide +kernel)),
    (h c main_arg5 rfl).trans (keep_end m c (by decide +kernel) (by decide +kernel) (by decide +kernel)),
    (h c main_arg6 rfl).trans (keep_end m c (by decide +kernel) (by decide +kernel) (by decide +kernel)),
    (h c main_arg7 rfl).trans (keep_end m c (by decide +kernel) (by decide +kernel) (by decide +kernel)),
    (h c main_arg8 rfl).trans (keep_end m c (by decide +kernel) (by decide +kernel) (by decide +kernel)),
    (h c main_arg9 rfl).trans (keep_end m c (by decide +kernel) (by decide +kernel) (by decide +kernel))⟩,
    sem_eq_zero_of_no_sems (by decide) r.2⟩) (run_fold m ρ)

end keep

end Cert.ReferenceIdeal.Math

end
-- ==== Proof.RValue.lean ====
module

public import proofs.«01_k».proof.Proof.RLoop

@[expose] public section

set_option maxRecDepth 8192

/-! # The reference's value

Over the extended reals the reference's result is `Cert.Mamba.outAll` of its arguments. -/

noncomputable section

namespace Cert.ReferenceIdeal.Math

open Idealize.ShloMosaic hiding ix1 ix2 ix3 ix4
open Idealize.ShloMosaic.TcCoe Idealize.ShloMosaic.StableHlo Idealize.ShloMosaic.ValueIdx Idealize.ShloMosaic.Pipeline Idealize.SL.Sem
open Cert.ReferenceIdeal Cert.ReferenceIdeal.Gen Cert.ReferenceIdeal.Value
open scoped BigOperators

variable (m : (ℓ : Loc nD τ sig) → Buf (Elt Ideal) ℓ) (c : Dev nD)

/-- An argument as launched. -/
abbrev arg (b : Ref sig .tc) : (Proc.devRef .tc b : DevRef τ sig).ty.Contents (Elt Ideal) := m (c, Proc.devRef .tc b)

/-- The arguments as one batch reads them. -/
abbrev inp (b : Fin 4) : Cert.Mamba.Inp := Cert.Mamba.inpOf (arg m c main_arg0) (arg m c main_arg1) (arg m c main_arg2) (arg m c main_arg3)
  (arg m c main_arg4) (arg m c main_arg5) (arg m c main_arg6) (arg m c main_arg7) (arg m c main_arg8) (arg m c main_arg9) b

/-- The convolved signal of the arguments. -/
def uAll : FVec Ideal S4x2048x512 .f32 := siluR (convR (pad S4x2051x512 ![0, 3, 0] ![0, 0, 0] ![0, 0, 0]
  (extractStridedSlice S4x2048x512 ![0, 0, 0] (projIn (arg m c main_arg0) (arg m c main_arg1)) slices_S4x2048x1024_S4x2048x512_0_0_0)
  (sitofp .f32 (constantI S_ 32 0#32)) pads_S4x2048x512_S4x2051x512_000_300_000 h_S_) (arg m c main_arg2) (arg m c main_arg3))

/-- The convolved signal, read at an index. -/
theorem uAll_apply (b : Fin 4) (t : Fin 2048) (d : Fin 512) : uAll m c (ix3 b t d) = Cert.Mamba.u (inp m c b) t d :=
  (siluR_apply _ _).trans (congrArg Cert.Mamba.silu (convR_apply _ _ _ _ _ _ _ _ _ _ b rfl _ (fun t d => v4_apply _ _ _ _ _ _ _ _ _ _ b rfl t d) t d))

/-- The projection of the convolved signal, read at an index. -/
theorem qAll_apply (b : Fin 4) (t : Fin 2048) (j : Fin 136) : projR (uAll m c) (arg m c main_arg4) (ix3 b t j) = Cert.Mamba.proj (inp m c b) t j :=
  projR_apply _ _ _ _ _ _ _ _ _ _ b rfl _ (fun t d => uAll_apply m c b t d) t j

/-- The padded signal and the two arguments of the convolution, before the third stretch. -/
theorem conv_in : convR (F := Ideal) (rd (W1 m c) main_v6) (rd (W1 m c) main_arg2) (rd (W1 m c) main_arg3)
    = convR (F := Ideal) (pad S4x2051x512 ![0, 3, 0] ![0, 0, 0] ![0, 0, 0]
      (extractStridedSlice S4x2048x512 ![0, 0, 0] (projIn (arg m c main_arg0) (arg m c main_arg1)) slices_S4x2048x1024_S4x2048x512_0_0_0)
      (sitofp .f32 (constantI S_ 32 0#32)) pads_S4x2048x512_S4x2051x512_000_300_000 h_S_) (arg m c main_arg2) (arg m c main_arg3) := by
  have e6 := ops1_v6 (W0 m c)
  rw [ops0_v4 (launchContents m c), ops0_c (launchContents m c)] at e6
  have e2 := (keep1 m c (b := main_arg2) (by decide +kernel)).trans (keep0 m c (by decide +kernel))
  have e3 := (keep1 m c (b := main_arg3) (by decide +kernel)).trans (keep0 m c (by decide +kernel))
  rw [e6, e2, e3]

/-- The convolved signal after the third stretch. -/
theorem W2_v45 : rd (W2 m c) main_v45 = uAll m c := (ops2_v45 (W1 m c)).trans (congrArg siluR (conv_in m c))

/-- The projection of the convolved signal, in the third stretch. -/
theorem proj_in : projR (siluR (convR (rd (W1 m c) main_v6) (rd (W1 m c) main_arg2) (rd (W1 m c) main_arg3))) (rd (W1 m c) main_arg4)
    = projR (uAll m c) (arg m c main_arg4) := by
  have e4 := (keep1 m c (b := main_arg4) (by decide +kernel)).trans (keep0 m c (by decide +kernel))
  rw [conv_in, e4]
  rfl

/-- What the loop only reads, before it. -/
theorem reads_entry (b : Fin 4) : Reads (inp m c b) b (W4 m c) where
  dt t d := by
    have e : rd (W3 m c) main_v56 = spR (dtLin (projR (uAll m c) (arg m c main_arg4)) (arg m c main_arg5) (arg m c main_arg6)) := by
      have e5 := (keep1 m c (b := main_arg5) (by decide +kernel)).trans (keep0 m c (by decide +kernel))
      have e6 := (keep1 m c (b := main_arg6) (by decide +kernel)).trans (keep0 m c (by decide +kernel))
      refine (ops3_v56 (W2 m c)).trans (congrArg spR ((ops2_v55 (W1 m c)).trans ?_))
      rw [proj_in, e5, e6]
    refine (congrFun (ops4_0 (W3 m c)) (ix3 t b d)).trans ?_
    refine (swap_apply (m := 4) (a := 2048) (b := 512) _ transposes_S4x2048x512_S2048x4x512_1_0_2 t b d).trans ?_
    refine (congrFun e _).trans ((spR_apply _ _).trans (congrArg Cert.Mamba.softplus ?_))
    exact dtLin_apply _ _ _ _ _ _ _ _ _ _ b rfl _ (fun t j => qAll_apply m c b t j) t d
  bb t n := by
    have e := (keep3 m c (b := main_v49) (by decide +kernel)).trans (ops2_v49 (W1 m c))
    rw [proj_in] at e
    refine (congrFun (ops4_1 (W3 m c)) (ix3 t b n)).trans ?_
    refine (swap_apply (m := 4) (a := 2048) (b := 64) _ transposes_S4x2048x64_S2048x4x64_1_0_2 t b n).trans ((congrFun e _).trans ?_)
    exact (slice_last (n0 := 4) (n1 := 2048) (n2 := 136) (m := 64) 8 _ slices_S4x2048x136_S4x2048x64_0_0_8 b t n ⟨8 + n.val, by omega⟩ rfl).trans (qAll_apply m c b t _)
  cc t n := by
    have e := (keep3 m c (b := main_v50) (by decide +kernel)).trans (ops2_v50 (W1 m c))
    rw [proj_in] at e
    refine (congrFun (ops4_2 (W3 m c)) (ix3 t b n)).trans ?_
    refine (swap_apply (m := 4) (a := 2048) (b := 64) _ transposes_S4x2048x64_S2048x4x64_1_0_2 t b n).trans ((congrFun e _).trans ?_)
    exact (slice_last (n0 := 4) (n1 := 2048) (n2 := 136) (m := 64) 72 _ slices_S4x2048x136_S4x2048x64_0_0_72 b t n ⟨72 + n.val, by omega⟩ rfl).trans (qAll_apply m c b t _)
  uu t d := by
    have e := (keep3 m c (b := main_v45) (by decide +kernel)).trans (W2_v45 m c)
    refine (congrFun (ops4_3 (W3 m c)) (ix3 t b d)).trans ?_
    exact (swap_apply (m := 4) (a := 2048) (b := 512) _ transposes_S4x2048x512_S2048x4x512_1_0_2 t b d).trans ((congrFun e _).trans (uAll_apply m c b t d))
  aa d n := by
    have e := (keep3 m c (b := main_arg7) (by decide +kernel)).trans ((keep2 m c (by decide +kernel)).trans ((keep1 m c (by decide +kernel)).trans (keep0 m c (by decide +kernel))))
    refine (congrFun (ops4_4 (W3 m c)) (ix2 d n)).trans ?_
    rw [e]
    rfl

/-- One trip on a carried buffer. -/
theorem atK_succ (k : ℕ) {j : Ref sig .tc} (hj : j ∈ carriedRefs) : rd (atK m (k + 1) c) j = rd (STEP (atK m k c)) j := trip_agree (atK m k c) j hj

/-- What the loop only reads is the same before every trip. -/
theorem reads_atK (b : Fin 4) : ∀ k, Reads (inp m c b) b (atK m k c)
  | 0 => reads_entry m c b
  | k + 1 => by
    have R := reads_atK b k
    have e0 := (atK_succ m c k (j := main_v65_0) (by decide)).trans (STEP_main_v65_0 _)
    have e1 := (atK_succ m c k (j := main_v65_1) (by decide)).trans (STEP_main_v65_1 _)
    have e2 := (atK_succ m c k (j := main_v65_2) (by decide)).trans (STEP_main_v65_2 _)
    have e3 := (atK_succ m c k (j := main_v65_3) (by decide)).trans (STEP_main_v65_3 _)
    have e4 := (atK_succ m c k (j := main_v65_4) (by decide)).trans (STEP_main_v65_4 _)
    exact ⟨fun t d => (congrFun e0 _).trans (R.dt t d), fun t n => (congrFun e1 _).trans (R.bb t n), fun t n => (congrFun e2 _).trans (R.cc t n),
      fun t d => (congrFun e3 _).trans (R.uu t d), fun d n => (congrFun e4 _).trans (R.aa d n)⟩

/-- The carried state before trip `k` is the state before step `k`. -/
theorem h_atK (b : Fin 4) : ∀ k, k ≤ 2048 → ∀ d n, (rd (atK m k c) main_v65_6 : FVec Ideal S4x512x64 .f32) (ix3 b d n) = Cert.Mamba.h (inp m c b) k n d
  | 0, _, d, n => (congrFun (ops4_6 (W3 m c)) (ix3 b d n)).trans Ideal.ofBits_zero_f32
  | k + 1, hk, d, n => (congrFun ((atK_succ m c k (j := main_v65_6) (by decide)).trans (STEP_main_v65_6 _)) (ix3 b d n)).trans
      (v101_apply (reads_atK m c b k) k hk (atK_ctr m c k) (h_atK b k (by omega)) d n)

/-- The carried result before trip `k` holds the read-outs of the steps before `k`. -/
theorem y_atK (b : Fin 4) : ∀ k, k ≤ 2048 → ∀ (t : Fin 2048) (d : Fin 512), t.val < k →
    (rd (atK m k c) main_v65_7 : FVec Ideal S2048x4x512 .f32) (ix3 t b d) = Cert.Mamba.y (inp m c b) t d
  | 0, _, _, _, ht => absurd ht (Nat.not_lt_zero _)
  | k + 1, hk, t, d, ht => by
    refine (congrFun ((atK_succ m c k (j := main_v65_7) (by decide)).trans (STEP_main_v65_7 _)) (ix3 t b d)).trans
      ((step7_apply (reads_atK m c b k) k hk (atK_ctr m c k) (h_atK m c b k (by omega)) t d).trans ?_)
    by_cases e : t = ⟨k, hk⟩
    · rw [if_pos e, e]
    · rw [if_neg e]
      exact y_atK b k (by omega) t d (Nat.lt_of_le_of_ne (Nat.le_of_lt_succ ht) fun h => e (Fin.ext h))

/-- The run's result is the block over the argument arrays. -/
theorem final_eq : (finalContents condOps preI bodyI postI 2048 m c (Proc.devRef .tc main_v83) : FVec Ideal S4x128x1x2048 .f32)
    = Cert.Mamba.outAll (arg m c main_arg0) (arg m c main_arg1) (arg m c main_arg2) (arg m c main_arg3) (arg m c main_arg4)
      (arg m c main_arg5) (arg m c main_arg6) (arg m c main_arg7) (arg m c main_arg8) (arg m c main_arg9) := by
  refine (ops5_v83 (WL m c)).trans ?_
  have k0 := keep_all m c (b := main_arg0) (by decide +kernel) (by decide +kernel)
  have k8 := keep_all m c (b := main_arg8) (by decide +kernel) (by decide +kernel)
  have k9 := keep_all m c (b := main_arg9) (by decide +kernel) (by decide +kernel)
  have k45 := (keepL m c (b := main_v45) (by decide +kernel)).trans ((keep4 m c (by decide +kernel)).trans ((keep3 m c (by decide +kernel)).trans (W2_v45 m c)))
  have k5 := (keepL m c (b := main_v5) (by decide +kernel)).trans ((keep4 m c (by decide +kernel)).trans ((keep3 m c (by decide +kernel)).trans
    ((keep2 m c (by decide +kernel)).trans ((keep1 m c (by decide +kernel)).trans (ops0_v5 (launchContents m c))))))
  have k7 : rd (WL m c) main_v65_7 = rd (atK m 2048 c) main_v65_7 := cond_keeps (atK m 2048 c) main_v65_7 (by decide)
  rw [k0, k8, k9, k45, k5, k7]
  funext i
  have hi : i = ix4 (i 0) (i 1) 0 (i 3) := funext fun a => Fin.ext (match a with
    | ⟨0, _⟩ => rfl
    | ⟨1, _⟩ => rfl
    | ⟨2, h⟩ => by have h2 : (i ⟨2, h⟩).val < 1 := (i ⟨2, h⟩).isLt; show (i ⟨2, h⟩).val = 0; omega
    | ⟨3, _⟩ => rfl)
  refine (congrArg (outR _ _ _ _ _ _) hi).trans ?_
  exact outR_apply _ _ _ _ _ _ _ _ _ _ (i 0) (p := inp m c (i 0)) rfl _ _ _ (fun t d => y_atK m c (i 0) 2048 le_rfl t d t.isLt)
    (fun t d => uAll_apply m c (i 0) t d) (fun t d => v5_apply _ _ _ _ _ _ _ _ _ _ (i 0) rfl t d) (i 1) (i 3)

end Cert.ReferenceIdeal.Math

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_a_log_is_log_n
public import proofs.«01_k».proof.Proof.Gen.ReferenceIdeal.Run
public import proofs.«01_k».proof.Proof.KOut
public import proofs.«01_k».proof.Proof.KSame
public import proofs.«01_k».proof.Proof.RValue
public import Idealize.ShloMosaic.Adequacy
public import Idealize.ShloMosaic.Init

@[expose] public section

noncomputable section

namespace Cert.Proof

open Idealize.ShloMosaic Idealize.SL.Sem Cert.Kernel

/-- Where the precondition holds, the decay rates' logarithms are the logarithms of `1 … 64` in every batch's arguments. -/
theorem log_of_pre (m : (ℓ : Loc Cert.KernelIdeal.nD Cert.KernelIdeal.τ Cert.KernelIdeal.sig) → Buf (Elt Ideal) ℓ)
    (hm : Cert.Pre_KernelIdeal_a_log_is_log_n m) (c : Dev Cert.KernelIdeal.nD) (b : Fin 4) : Cert.Mamba.LogN (Cert.KernelIdeal.Scan.inp m c b) := by
  intro d n
  have h := congrFun (hm c) (ValueIdx.ix2 d n)
  have h' : BitVec.ofBool (decide (Cert.KernelIdeal.Scan.arg m c Cert.KernelIdeal.main_arg7 (ValueIdx.ix2 d n)
      = Ideal.log ((((BitVec.ofNat 32 n.val + 1#32).toInt : ℤ) : ℝ) : EReal))) = 1#1 := h
  have e : (BitVec.ofNat 32 n.val + 1#32).toInt = ((n.val + 1 : ℕ) : ℤ) := by
    have hn := n.isLt
    have e1 : (BitVec.ofNat 32 n.val + 1#32).toNat = n.val + 1 := by
      rw [BitVec.toNat_add, BitVec.toNat_ofNat]
      show (n.val % 2 ^ 32 + 1) % 2 ^ 32 = n.val + 1
      omega
    rw [BitVec.toInt_eq_toNat_of_lt (by rw [e1]; omega), e1]
  rw [e] at h'
  by_contra hne
  have hne' : ¬ (Cert.KernelIdeal.Scan.arg m c Cert.KernelIdeal.main_arg7 (ValueIdx.ix2 d n) = Ideal.log (((((n.val + 1 : ℕ) : ℤ) : ℝ)) : EReal)) := by
    rw [Int.cast_natCast]
    exact hne
  rw [decide_eq_false hne'] at h'
  exact absurd h' (by decide)

/-- Where the precondition holds and the arguments agree, kernel and reference return the same array. -/
theorem values : Cert.algebraic_KernelIdeal_ReferenceIdeal_pre_a_log_is_log_n := by
  intro m g m' g' hm heq
  refine ⟨fun c => Cert.KernelIdeal.Scan.result m c, ?_, ?_⟩
  · exact (θ_run _ _ _).mono (fun r h c => h.1 c) (Cert.KernelIdeal.Scan.run_value m g)
  · refine (θ_run _ _ _).mono (fun r h c => ⟨(h.1 c).1.trans ?_, (h.1 c).2⟩) (Cert.ReferenceIdeal.Math.run_fin m' g')
    obtain ⟨h0, h1, h2, h3, h4, h5, h6, h7, h8, h9⟩ := heq c
    have ek := Cert.KernelIdeal.Scan.result_eq m c (log_of_pre m hm c)
    have er := Cert.ReferenceIdeal.Math.final_eq m' c
    refine er.trans (Eq.trans ?_ ek.symm)
    have key : ∀ a0 a1 a2 a3 a4 a5 a6 a7 a8 a9 b0 b1 b2 b3 b4 b5 b6 b7 b8 b9, a0 = b0 → a1 = b1 → a2 = b2 → a3 = b3 → a4 = b4 → a5 = b5 → a6 = b6 →
        a7 = b7 → a8 = b8 → a9 = b9 → Cert.Mamba.outAll a0 a1 a2 a3 a4 a5 a6 a7 a8 a9 = Cert.Mamba.outAll b0 b1 b2 b3 b4 b5 b6 b7 b8 b9 := by
      rintro _ _ _ _ _ _ _ _ _ _ _ _ _ _ _ _ _ _ _ _ rfl rfl rfl rfl rfl rfl rfl rfl rfl rfl
      rfl
    exact key _ _ _ _ _ _ _ _ _ _ _ _ _ _ _ _ _ _ _ _ h0 h1 h2 h3 h4 h5 h6 h7 h8 h9

/-- The idealized kernel's frame. -/
theorem frame_ki (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c, Cert.KernelIdeal.Scan.Kept m r.2.mem c) ∧ r.2.sem = fun _ => 0) :=
  (θ_run _ _ _).mono (fun r h => ⟨fun c => (h.1 c).2, h.2⟩) (Cert.KernelIdeal.Scan.run_value m g)

/-- The idealized reference's frame. -/
theorem frame_ri (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c, Cert.ReferenceIdeal.Math.Kept m c r.2.mem) ∧ r.2.sem = fun _ => 0) :=
  (θ_run _ _ _).mono (fun r h => ⟨fun c => (h.1 c).2, h.2⟩) (Cert.ReferenceIdeal.Math.run_fin m g)

/-- Every claim holds. -/
theorem claim : Cert.Claim := ⟨Cert.Kernel.Gen.facts, Cert.KernelIdeal.Gen.facts, Cert.ReferenceIdeal.Gen.facts, Cert.Pre_a_log_is_log_n.Gen.facts,
  fun m g _ => Cert.Kernel.Same.frame m g, fun m g _ => frame_ki m g, fun m g _ => frame_ki m g, fun m g _ => frame_ri m g, fun m g _ => frame_ri m g,
  trivial, values⟩

end Cert.Proof

end
